-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![2048, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x2048 : Shape := ⟨2, ![64, 2048]⟩
abbrev S2048x2048 : Shape := ⟨2, ![2048, 2048]⟩
abbrev S2x7x4x64x768 : Shape := ⟨5, ![2, 7, 4, 64, 768]⟩
abbrev S2x3x64x768 : Shape := ⟨4, ![2, 3, 64, 768]⟩
abbrev S2x3x512x256 : Shape := ⟨4, ![2, 3, 512, 256]⟩
abbrev S2x7x64x256 : Shape := ⟨4, ![2, 7, 64, 256]⟩
abbrev S2x7x4 : Shape := ⟨3, ![2, 7, 4]⟩
abbrev S2x3 : Shape := ⟨2, ![2, 3]⟩
abbrev S2x3x4 : Shape := ⟨3, ![2, 3, 4]⟩
abbrev S2x7 : Shape := ⟨2, ![2, 7]⟩
abbrev S_ : Shape := ⟨0, ![]⟩
abbrev S1x1x1 : Shape := ⟨3, ![1, 1, 1]⟩
abbrev S1x1x1x64x768 : Shape := ⟨5, ![1, 1, 1, 64, 768]⟩
abbrev S64x768 : Shape := ⟨2, ![64, 768]⟩
abbrev S1x1x128x256 : Shape := ⟨4, ![1, 1, 128, 256]⟩
abbrev S128x256 : Shape := ⟨2, ![128, 256]⟩
abbrev S1x1 : Shape := ⟨2, ![1, 1]⟩
abbrev S1x1x64x256 : Shape := ⟨4, ![1, 1, 64, 256]⟩
abbrev S64x256 : Shape := ⟨2, ![64, 256]⟩
abbrev S1x1x64x768 : Shape := ⟨4, ![1, 1, 64, 768]⟩

abbrev nBuf : Space → Nat
  | .hbm => 3
  | .vmem => 8
  | .smem => 0
  | _ => 0

abbrev bufTy : (tb : Table) → Fin (tcTables nBuf tb) → BufTy
  | .hbm, ⟨0, _⟩ => ⟨S2048x64, .f32⟩
  | .hbm, ⟨1, _⟩ => ⟨S64x2048, .f32⟩
  | .hbm, ⟨2, _⟩ => ⟨S64x2048, .f32⟩
  | .local _ .vmem, ⟨0, _⟩ => ⟨S2048x64, .f32⟩
  | .local _ .vmem, ⟨1, _⟩ => ⟨S64x2048, .f32⟩
  | .local _ .vmem, ⟨2, _⟩ => ⟨S64x2048, .f32⟩
  | .local _ .vmem, ⟨3, _⟩ => ⟨S2048x2048, .f32⟩
  | .local _ .vmem, ⟨4, _⟩ => ⟨S2x7x4x64x768, .f32⟩
  | .local _ .vmem, ⟨5, _⟩ => ⟨S2x3x64x768, .f32⟩
  | .local _ .vmem, ⟨6, _⟩ => ⟨S2x3x512x256, .f32⟩
  | .local _ .vmem, ⟨7, _⟩ => ⟨S2x7x64x256, .f32⟩
  | _, _ => ⟨S2048x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 203 → Bool
  | ⟨i, _⟩ => dmaSemScopedAt i

abbrev sig : RefSig :=
  (ofTc nBuf bufTy 1 203 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_40 : BitVec 32 := 1#32
  let v64 : BitVec 32 := Scalar.muli v29 c1_i32_40
  let v65 : BitVec 32 := Scalar.addi c0_i32_41 v64
  v65.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_43 : BitVec 32 := 1#32
  let v66 : BitVec 32 := Scalar.muli v46 c1_i32_43
  let v67 : BitVec 32 := Scalar.addi c0_i32_44 v66
  v67.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_46 : BitVec 32 := 1#32
  let v68 : BitVec 32 := Scalar.muli v50 c1_i32_46
  let v69 : BitVec 32 := Scalar.addi c0_i32_47 v68
  v69.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_49 : BitVec 32 := 1#32
  let v70 : BitVec 32 := Scalar.muli v54 c1_i32_49
  let v71 : BitVec 32 := Scalar.addi c0_i32_50 v70
  v71.toNat
def k0_off1 (d0 : Dev nD) (c0_i32_54 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_53 : BitVec 32 := 3#32
  let v75 : BitVec 32 := Scalar.addi v3 c3_i32_53
  let v76 : BitVec 32 := Scalar.subi v75 c0_i32_54
  let c4_i32_55 : BitVec 32 := 4#32
  let v77 : BitVec 32 := Scalar.addi v76 c4_i32_55
  let c4_i32_56 : BitVec 32 := 4#32
  let v78 : BitVec 32 := Scalar.remsi v77 c4_i32_56
  let c8_i32_57 : BitVec 32 := 8#32
  let v79 : BitVec 32 := Scalar.muli v78 c8_i32_57
  let c2_i32_66 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c_m1_i32 : BitVec 32 := 4294967295#32
  let v72 : BitVec 32 := Scalar.addi v12 c_m1_i32
  let c16_i32 : BitVec 32 := 16#32
  let v73 : BitVec 32 := Scalar.addi v72 c16_i32
  let c8_i32_52 : BitVec 32 := 8#32
  let v74 : BitVec 32 := Scalar.remsi v73 c8_i32_52
  let c1_i32_58 : BitVec 32 := 1#32
  let v80 : BitVec 1 := Scalar.cmpi .sge v74 c1_i32_58
  let c4_i32_59 : BitVec 32 := 4#32
  let v81 : BitVec 1 := Scalar.cmpi .sle v74 c4_i32_59
  let v82 : BitVec 1 := Scalar.andi v80 v81
  let c1_i32_60 : BitVec 32 := 1#32
  let c0_i32_61 : BitVec 32 := 0#32
  let v83 : BitVec 32 := Scalar.select v82 c1_i32_60 c0_i32_61
  let c1_i32_62 : BitVec 32 := 1#32
  let v84 : BitVec 1 := Scalar.cmpi .eq v83 c1_i32_62
  let c1_i32_63 : BitVec 32 := 1#32
  let v85 : BitVec 32 := Scalar.subi v74 c1_i32_63
  let c8_i32_64 : BitVec 32 := 8#32
  let v86 : BitVec 32 := Scalar.subi c8_i32_64 v74
  let c8_i32_65 : BitVec 32 := 8#32
  let v87 : BitVec 32 := Scalar.remsi v86 c8_i32_65
  let v88 : BitVec 32 := Scalar.select v84 v85 v87
  let v89 : BitVec 32 := Scalar.muli c2_i32_66 v88
  let v90 : BitVec 32 := Scalar.addi v83 v88
  let c2_i32_67 : BitVec 32 := 2#32
  let v91 : BitVec 32 := Scalar.remsi v90 c2_i32_67
  let v92 : BitVec 32 := Scalar.addi v89 v91
  let v93 : BitVec 32 := Scalar.addi v79 v92
  let c64_i32 : BitVec 32 := 64#32
  let v94 : BitVec 32 := Scalar.muli v93 c64_i32
  let c0_i32_81 : BitVec 32 := 0#32
  ![v94.toNat, 0]
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_77 : BitVec 32 := 1#32
  let v95 : BitVec 32 := Scalar.muli v29 c1_i32_77
  let v96 : BitVec 32 := Scalar.addi c0_i32_78 v95
  v96.toNat
def k0_off2 (d0 : Dev nD) (c0_i32_86 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_85 : BitVec 32 := 1#32
  let v107 : BitVec 32 := Scalar.addi v3 c1_i32_85
  let v108 : BitVec 32 := Scalar.addi v107 c0_i32_86
  let c4_i32_87 : BitVec 32 := 4#32
  let v109 : BitVec 32 := Scalar.remsi v108 c4_i32_87
  let c8_i32_88 : BitVec 32 := 8#32
  let v110 : BitVec 32 := Scalar.muli v109 c8_i32_88
  let c2_i32_97 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_82 : BitVec 32 := 1#32
  let v104 : BitVec 32 := Scalar.addi v12 c1_i32_82
  let c16_i32_83 : BitVec 32 := 16#32
  let v105 : BitVec 32 := Scalar.addi v104 c16_i32_83
  let c8_i32_84 : BitVec 32 := 8#32
  let v106 : BitVec 32 := Scalar.remsi v105 c8_i32_84
  let c1_i32_89 : BitVec 32 := 1#32
  let v111 : BitVec 1 := Scalar.cmpi .sge v106 c1_i32_89
  let c4_i32_90 : BitVec 32 := 4#32
  let v112 : BitVec 1 := Scalar.cmpi .sle v106 c4_i32_90
  let v113 : BitVec 1 := Scalar.andi v111 v112
  let c1_i32_91 : BitVec 32 := 1#32
  let c0_i32_92 : BitVec 32 := 0#32
  let v114 : BitVec 32 := Scalar.select v113 c1_i32_91 c0_i32_92
  let c1_i32_93 : BitVec 32 := 1#32
  let v115 : BitVec 1 := Scalar.cmpi .eq v114 c1_i32_93
  let c1_i32_94 : BitVec 32 := 1#32
  let v116 : BitVec 32 := Scalar.subi v106 c1_i32_94
  let c8_i32_95 : BitVec 32 := 8#32
  let v117 : BitVec 32 := Scalar.subi c8_i32_95 v106
  let c8_i32_96 : BitVec 32 := 8#32
  let v118 : BitVec 32 := Scalar.remsi v117 c8_i32_96
  let v119 : BitVec 32 := Scalar.select v115 v116 v118
  let v120 : BitVec 32 := Scalar.muli c2_i32_97 v119
  let v121 : BitVec 32 := Scalar.addi v114 v119
  let c2_i32_98 : BitVec 32 := 2#32
  let v122 : BitVec 32 := Scalar.remsi v121 c2_i32_98
  let v123 : BitVec 32 := Scalar.addi v120 v122
  let v124 : BitVec 32 := Scalar.addi v110 v123
  let c64_i32_99 : BitVec 32 := 64#32
  let v125 : BitVec 32 := Scalar.muli v124 c64_i32_99
  let c768_i32 : BitVec 32 := 768#32
  ![v125.toNat, 768]
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_109 : BitVec 32 := 1#32
  let v126 : BitVec 32 := Scalar.muli v46 c1_i32_109
  let v127 : BitVec 32 := Scalar.addi c0_i32_110 v126
  v127.toNat
def k0_dev7 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_141 : BitVec 32 := 1#32
  let v158 : BitVec 32 := Scalar.muli v29 c1_i32_141
  let v159 : BitVec 32 := Scalar.addi c0_i32_142 v158
  v159.toNat
def k0_dev8 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_173 : BitVec 32 := 1#32
  let v189 : BitVec 32 := Scalar.muli v46 c1_i32_173
  let v190 : BitVec 32 := Scalar.addi c0_i32_174 v189
  v190.toNat
def k0_dev9 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_206 : BitVec 32 := 1#32
  let v221 : BitVec 32 := Scalar.muli v29 c1_i32_206
  let v222 : BitVec 32 := Scalar.addi c0_i32_207 v221
  v222.toNat
def k0_dev10 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_238 : BitVec 32 := 1#32
  let v252 : BitVec 32 := Scalar.muli v46 c1_i32_238
  let v253 : BitVec 32 := Scalar.addi c0_i32_239 v252
  v253.toNat
def k0_dev11 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_271 : BitVec 32 := 1#32
  let v284 : BitVec 32 := Scalar.muli v29 c1_i32_271
  let v285 : BitVec 32 := Scalar.addi c0_i32_272 v284
  v285.toNat
def k0_dev12 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_303 : BitVec 32 := 1#32
  let v315 : BitVec 32 := Scalar.muli v46 c1_i32_303
  let v316 : BitVec 32 := Scalar.addi c0_i32_304 v315
  v316.toNat
def k0_off3 (d0 : Dev nD) (c0_i32_311 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c_m1_i32_308 : BitVec 32 := 4294967295#32
  let v324 : BitVec 32 := Scalar.addi v3 c_m1_i32_308
  let c8_i32_309 : BitVec 32 := 8#32
  let v325 : BitVec 32 := Scalar.addi v324 c8_i32_309
  let c4_i32_310 : BitVec 32 := 4#32
  let v326 : BitVec 32 := Scalar.remsi v325 c4_i32_310
  let c512_i32 : BitVec 32 := 512#32
  let v327 : BitVec 32 := Scalar.muli v326 c512_i32
  let v328 : BitVec 32 := Scalar.addi v327 c0_i32_311
  let c1536_i32 : BitVec 32 := 1536#32
  ![v328.toNat, 1536]
def k0_dev13 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_320 : BitVec 32 := 1#32
  let v329 : BitVec 32 := Scalar.muli v50 c1_i32_320
  let v330 : BitVec 32 := Scalar.addi c0_i32_321 v329
  v330.toNat
def k0_off4 (d0 : Dev nD) (c0_i32_328 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_324 : BitVec 32 := 1#32
  let v338 : BitVec 32 := Scalar.addi v3 c1_i32_324
  let c8_i32_325 : BitVec 32 := 8#32
  let v339 : BitVec 32 := Scalar.addi v338 c8_i32_325
  let c4_i32_326 : BitVec 32 := 4#32
  let v340 : BitVec 32 := Scalar.remsi v339 c4_i32_326
  let c512_i32_327 : BitVec 32 := 512#32
  let v341 : BitVec 32 := Scalar.muli v340 c512_i32_327
  let v342 : BitVec 32 := Scalar.addi v341 c0_i32_328
  let c1792_i32 : BitVec 32 := 1792#32
  ![v342.toNat, 1792]
def k0_dev14 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_337 : BitVec 32 := 1#32
  let v343 : BitVec 32 := Scalar.muli v54 c1_i32_337
  let v344 : BitVec 32 := Scalar.addi c0_i32_338 v343
  v344.toNat
def k0_dev15 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_353 : BitVec 32 := 1#32
  let v357 : BitVec 32 := Scalar.muli v50 c1_i32_353
  let v358 : BitVec 32 := Scalar.addi c0_i32_354 v357
  v358.toNat
def k0_dev16 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_371 : BitVec 32 := 1#32
  let v371 : BitVec 32 := Scalar.muli v54 c1_i32_371
  let v372 : BitVec 32 := Scalar.addi c0_i32_372 v371
  v372.toNat
def k0_dev17 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_388 : BitVec 32 := 1#32
  let v385 : BitVec 32 := Scalar.muli v50 c1_i32_388
  let v386 : BitVec 32 := Scalar.addi c0_i32_389 v385
  v386.toNat
def k0_dev18 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_406 : BitVec 32 := 1#32
  let v399 : BitVec 32 := Scalar.muli v54 c1_i32_406
  let v400 : BitVec 32 := Scalar.addi c0_i32_407 v399
  v400.toNat
def k0_dev19 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_423 : BitVec 32 := 1#32
  let v413 : BitVec 32 := Scalar.muli v50 c1_i32_423
  let v414 : BitVec 32 := Scalar.addi c0_i32_424 v413
  v414.toNat
def k0_dev20 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_441 : BitVec 32 := 1#32
  let v427 : BitVec 32 := Scalar.muli v54 c1_i32_441
  let v428 : BitVec 32 := Scalar.addi c0_i32_442 v427
  v428.toNat
def k0_off5 (d0 : Dev nD) (c0_i32_463 : BitVec 32) (c_m2_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_462 : BitVec 32 := 3#32
  let v446 : BitVec 32 := Scalar.addi v3 c3_i32_462
  let v447 : BitVec 32 := Scalar.subi v446 c0_i32_463
  let c4_i32_464 : BitVec 32 := 4#32
  let v448 : BitVec 32 := Scalar.addi v447 c4_i32_464
  let c4_i32_465 : BitVec 32 := 4#32
  let v449 : BitVec 32 := Scalar.remsi v448 c4_i32_465
  let c8_i32_466 : BitVec 32 := 8#32
  let v450 : BitVec 32 := Scalar.muli v449 c8_i32_466
  let c2_i32_475 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let v443 : BitVec 32 := Scalar.addi v12 c_m2_i32
  let c32_i32_460 : BitVec 32 := 32#32
  let v444 : BitVec 32 := Scalar.addi v443 c32_i32_460
  let c8_i32_461 : BitVec 32 := 8#32
  let v445 : BitVec 32 := Scalar.remsi v444 c8_i32_461
  let c1_i32_467 : BitVec 32 := 1#32
  let v451 : BitVec 1 := Scalar.cmpi .sge v445 c1_i32_467
  let c4_i32_468 : BitVec 32 := 4#32
  let v452 : BitVec 1 := Scalar.cmpi .sle v445 c4_i32_468
  let v453 : BitVec 1 := Scalar.andi v451 v452
  let c1_i32_469 : BitVec 32 := 1#32
  let c0_i32_470 : BitVec 32 := 0#32
  let v454 : BitVec 32 := Scalar.select v453 c1_i32_469 c0_i32_470
  let c1_i32_471 : BitVec 32 := 1#32
  let v455 : BitVec 1 := Scalar.cmpi .eq v454 c1_i32_471
  let c1_i32_472 : BitVec 32 := 1#32
  let v456 : BitVec 32 := Scalar.subi v445 c1_i32_472
  let c8_i32_473 : BitVec 32 := 8#32
  let v457 : BitVec 32 := Scalar.subi c8_i32_473 v445
  let c8_i32_474 : BitVec 32 := 8#32
  let v458 : BitVec 32 := Scalar.remsi v457 c8_i32_474
  let v459 : BitVec 32 := Scalar.select v455 v456 v458
  let v460 : BitVec 32 := Scalar.muli c2_i32_475 v459
  let v461 : BitVec 32 := Scalar.addi v454 v459
  let c2_i32_476 : BitVec 32 := 2#32
  let v462 : BitVec 32 := Scalar.remsi v461 c2_i32_476
  let v463 : BitVec 32 := Scalar.addi v460 v462
  let v464 : BitVec 32 := Scalar.addi v450 v463
  let c64_i32_482 : BitVec 32 := 64#32
  let v467 : BitVec 32 := Scalar.muli v464 c64_i32_482
  let v468 : Index := Scalar.indexCast v467
  let c0_483 : Index := 0#32
  ![v468.toNat, 0]
def k0_dev21 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_501 : BitVec 32 := 1#32
  let v474 : BitVec 32 := Scalar.muli v29 c1_i32_501
  let v475 : BitVec 32 := Scalar.addi c0_i32_502 v474
  v475.toNat
def k0_off6 (d0 : Dev nD) (c0_i32_525 : BitVec 32) (c2_i32_521 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_524 : BitVec 32 := 1#32
  let v494 : BitVec 32 := Scalar.addi v3 c1_i32_524
  let v495 : BitVec 32 := Scalar.addi v494 c0_i32_525
  let c4_i32_526 : BitVec 32 := 4#32
  let v496 : BitVec 32 := Scalar.remsi v495 c4_i32_526
  let c8_i32_527 : BitVec 32 := 8#32
  let v497 : BitVec 32 := Scalar.muli v496 c8_i32_527
  let c2_i32_536 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let v491 : BitVec 32 := Scalar.addi v12 c2_i32_521
  let c32_i32_522 : BitVec 32 := 32#32
  let v492 : BitVec 32 := Scalar.addi v491 c32_i32_522
  let c8_i32_523 : BitVec 32 := 8#32
  let v493 : BitVec 32 := Scalar.remsi v492 c8_i32_523
  let c1_i32_528 : BitVec 32 := 1#32
  let v498 : BitVec 1 := Scalar.cmpi .sge v493 c1_i32_528
  let c4_i32_529 : BitVec 32 := 4#32
  let v499 : BitVec 1 := Scalar.cmpi .sle v493 c4_i32_529
  let v500 : BitVec 1 := Scalar.andi v498 v499
  let c1_i32_530 : BitVec 32 := 1#32
  let c0_i32_531 : BitVec 32 := 0#32
  let v501 : BitVec 32 := Scalar.select v500 c1_i32_530 c0_i32_531
  let c1_i32_532 : BitVec 32 := 1#32
  let v502 : BitVec 1 := Scalar.cmpi .eq v501 c1_i32_532
  let c1_i32_533 : BitVec 32 := 1#32
  let v503 : BitVec 32 := Scalar.subi v493 c1_i32_533
  let c8_i32_534 : BitVec 32 := 8#32
  let v504 : BitVec 32 := Scalar.subi c8_i32_534 v493
  let c8_i32_535 : BitVec 32 := 8#32
  let v505 : BitVec 32 := Scalar.remsi v504 c8_i32_535
  let v506 : BitVec 32 := Scalar.select v502 v503 v505
  let v507 : BitVec 32 := Scalar.muli c2_i32_536 v506
  let v508 : BitVec 32 := Scalar.addi v501 v506
  let c2_i32_537 : BitVec 32 := 2#32
  let v509 : BitVec 32 := Scalar.remsi v508 c2_i32_537
  let v510 : BitVec 32 := Scalar.addi v507 v509
  let v511 : BitVec 32 := Scalar.addi v497 v510
  let c64_i32_542 : BitVec 32 := 64#32
  let v514 : BitVec 32 := Scalar.muli v511 c64_i32_542
  let v515 : Index := Scalar.indexCast v514
  let c768 : Index := 768#32
  ![v515.toNat, 768]
def k0_dev22 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_560 : BitVec 32 := 1#32
  let v521 : BitVec 32 := Scalar.muli v46 c1_i32_560
  let v522 : BitVec 32 := Scalar.addi c0_i32_561 v521
  v522.toNat
def k0_dev23 (d0 : Dev nD) : Nat :=
  let c0_i32_623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_622 : BitVec 32 := 1#32
  let v569 : BitVec 32 := Scalar.muli v29 c1_i32_622
  let v570 : BitVec 32 := Scalar.addi c0_i32_623 v569
  v570.toNat
def k0_dev24 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_683 : BitVec 32 := 1#32
  let v616 : BitVec 32 := Scalar.muli v46 c1_i32_683
  let v617 : BitVec 32 := Scalar.addi c0_i32_684 v616
  v617.toNat
def k0_dev25 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_744 : BitVec 32 := 1#32
  let v664 : BitVec 32 := Scalar.muli v29 c1_i32_744
  let v665 : BitVec 32 := Scalar.addi c0_i32_745 v664
  v665.toNat
def k0_dev26 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_805 : BitVec 32 := 1#32
  let v711 : BitVec 32 := Scalar.muli v46 c1_i32_805
  let v712 : BitVec 32 := Scalar.addi c0_i32_806 v711
  v712.toNat
def k0_dev27 (d0 : Dev nD) : Nat :=
  let c0_i32_867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_866 : BitVec 32 := 1#32
  let v759 : BitVec 32 := Scalar.muli v29 c1_i32_866
  let v760 : BitVec 32 := Scalar.addi c0_i32_867 v759
  v760.toNat
def k0_dev28 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_927 : BitVec 32 := 1#32
  let v806 : BitVec 32 := Scalar.muli v46 c1_i32_927
  let v807 : BitVec 32 := Scalar.addi c0_i32_928 v806
  v807.toNat
def k0_dev29 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_992 : BitVec 32 := 1#32
  let v855 : BitVec 32 := Scalar.muli v29 c1_i32_992
  let v856 : BitVec 32 := Scalar.addi c0_i32_993 v855
  v856.toNat
def k0_dev30 (d0 : Dev nD) : Nat :=
  let c0_i32_1058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_1057 : BitVec 32 := 1#32
  let v903 : BitVec 32 := Scalar.muli v46 c1_i32_1057
  let v904 : BitVec 32 := Scalar.addi c0_i32_1058 v903
  v904.toNat
def k0_dev31 (d0 : Dev nD) : Nat :=
  let c0_i32_1124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_1123 : BitVec 32 := 1#32
  let v952 : BitVec 32 := Scalar.muli v29 c1_i32_1123
  let v953 : BitVec 32 := Scalar.addi c0_i32_1124 v952
  v953.toNat
def k0_dev32 (d0 : Dev nD) : Nat :=
  let c0_i32_1189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_1188 : BitVec 32 := 1#32
  let v1000 : BitVec 32 := Scalar.muli v46 c1_i32_1188
  let v1001 : BitVec 32 := Scalar.addi c0_i32_1189 v1000
  v1001.toNat
def k0_dev33 (d0 : Dev nD) : Nat :=
  let c0_i32_1255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_1254 : BitVec 32 := 1#32
  let v1049 : BitVec 32 := Scalar.muli v29 c1_i32_1254
  let v1050 : BitVec 32 := Scalar.addi c0_i32_1255 v1049
  v1050.toNat
def k0_dev34 (d0 : Dev nD) : Nat :=
  let c0_i32_1320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_1319 : BitVec 32 := 1#32
  let v1097 : BitVec 32 := Scalar.muli v46 c1_i32_1319
  let v1098 : BitVec 32 := Scalar.addi c0_i32_1320 v1097
  v1098.toNat
def k0_dev35 (d0 : Dev nD) : Nat :=
  let c0_i32_1386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_1385 : BitVec 32 := 1#32
  let v1146 : BitVec 32 := Scalar.muli v29 c1_i32_1385
  let v1147 : BitVec 32 := Scalar.addi c0_i32_1386 v1146
  v1147.toNat
def k0_dev36 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_1450 : BitVec 32 := 1#32
  let v1194 : BitVec 32 := Scalar.muli v46 c1_i32_1450
  let v1195 : BitVec 32 := Scalar.addi c0_i32_1451 v1194
  v1195.toNat
def k0_dev37 (d0 : Dev nD) : Nat :=
  let c0_i32_1516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_1515 : BitVec 32 := 1#32
  let v1243 : BitVec 32 := Scalar.muli v29 c1_i32_1515
  let v1244 : BitVec 32 := Scalar.addi c0_i32_1516 v1243
  v1244.toNat
def k0_dev38 (d0 : Dev nD) : Nat :=
  let c0_i32_1581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_1580 : BitVec 32 := 1#32
  let v1291 : BitVec 32 := Scalar.muli v46 c1_i32_1580
  let v1292 : BitVec 32 := Scalar.addi c0_i32_1581 v1291
  v1292.toNat
def k0_dev39 (d0 : Dev nD) : Nat :=
  let c0_i32_1647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_1646 : BitVec 32 := 1#32
  let v1340 : BitVec 32 := Scalar.muli v29 c1_i32_1646
  let v1341 : BitVec 32 := Scalar.addi c0_i32_1647 v1340
  v1341.toNat
def k0_dev40 (d0 : Dev nD) : Nat :=
  let c0_i32_1712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_1711 : BitVec 32 := 1#32
  let v1388 : BitVec 32 := Scalar.muli v46 c1_i32_1711
  let v1389 : BitVec 32 := Scalar.addi c0_i32_1712 v1388
  v1389.toNat
def k0_dev41 (d0 : Dev nD) : Nat :=
  let c0_i32_1778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_1777 : BitVec 32 := 1#32
  let v1437 : BitVec 32 := Scalar.muli v29 c1_i32_1777
  let v1438 : BitVec 32 := Scalar.addi c0_i32_1778 v1437
  v1438.toNat
def k0_dev42 (d0 : Dev nD) : Nat :=
  let c0_i32_1843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_1842 : BitVec 32 := 1#32
  let v1485 : BitVec 32 := Scalar.muli v46 c1_i32_1842
  let v1486 : BitVec 32 := Scalar.addi c0_i32_1843 v1485
  v1486.toNat
def k0_dev43 (d0 : Dev nD) : Nat :=
  let c0_i32_1909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_1908 : BitVec 32 := 1#32
  let v1534 : BitVec 32 := Scalar.muli v29 c1_i32_1908
  let v1535 : BitVec 32 := Scalar.addi c0_i32_1909 v1534
  v1535.toNat
def k0_dev44 (d0 : Dev nD) : Nat :=
  let c0_i32_1974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_1973 : BitVec 32 := 1#32
  let v1582 : BitVec 32 := Scalar.muli v46 c1_i32_1973
  let v1583 : BitVec 32 := Scalar.addi c0_i32_1974 v1582
  v1583.toNat
def k0_off7 (d0 : Dev nD) (c_m2_i32_1992 : BitVec 32) (c0_i32_2000 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v1599 : BitVec 32 := Scalar.addi v3 c_m2_i32_1992
  let c8_i32_1993 : BitVec 32 := 8#32
  let v1600 : BitVec 32 := Scalar.addi v1599 c8_i32_1993
  let c4_i32_1994 : BitVec 32 := 4#32
  let v1601 : BitVec 32 := Scalar.remsi v1600 c4_i32_1994
  let c512_i32_1999 : BitVec 32 := 512#32
  let v1604 : BitVec 32 := Scalar.muli v1601 c512_i32_1999
  let v1605 : BitVec 32 := Scalar.addi v1604 c0_i32_2000
  let v1606 : Index := Scalar.indexCast v1605
  let c1536 : Index := 1536#32
  ![v1606.toNat, 1536]
def k0_dev45 (d0 : Dev nD) : Nat :=
  let c0_i32_2016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_2015 : BitVec 32 := 1#32
  let v1612 : BitVec 32 := Scalar.muli v50 c1_i32_2015
  let v1613 : BitVec 32 := Scalar.addi c0_i32_2016 v1612
  v1613.toNat
def k0_off8 (d0 : Dev nD) (c2_i32_2034 : BitVec 32) (c0_i32_2042 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v1629 : BitVec 32 := Scalar.addi v3 c2_i32_2034
  let c8_i32_2035 : BitVec 32 := 8#32
  let v1630 : BitVec 32 := Scalar.addi v1629 c8_i32_2035
  let c4_i32_2036 : BitVec 32 := 4#32
  let v1631 : BitVec 32 := Scalar.remsi v1630 c4_i32_2036
  let c512_i32_2041 : BitVec 32 := 512#32
  let v1634 : BitVec 32 := Scalar.muli v1631 c512_i32_2041
  let v1635 : BitVec 32 := Scalar.addi v1634 c0_i32_2042
  let v1636 : Index := Scalar.indexCast v1635
  let c1792 : Index := 1792#32
  ![v1636.toNat, 1792]
def k0_dev46 (d0 : Dev nD) : Nat :=
  let c0_i32_2058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_2057 : BitVec 32 := 1#32
  let v1642 : BitVec 32 := Scalar.muli v54 c1_i32_2057
  let v1643 : BitVec 32 := Scalar.addi c0_i32_2058 v1642
  v1643.toNat
def k0_dev47 (d0 : Dev nD) : Nat :=
  let c0_i32_2100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_2099 : BitVec 32 := 1#32
  let v1672 : BitVec 32 := Scalar.muli v50 c1_i32_2099
  let v1673 : BitVec 32 := Scalar.addi c0_i32_2100 v1672
  v1673.toNat
def k0_dev48 (d0 : Dev nD) : Nat :=
  let c0_i32_2143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_2142 : BitVec 32 := 1#32
  let v1702 : BitVec 32 := Scalar.muli v54 c1_i32_2142
  let v1703 : BitVec 32 := Scalar.addi c0_i32_2143 v1702
  v1703.toNat
def k0_dev49 (d0 : Dev nD) : Nat :=
  let c0_i32_2185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_2184 : BitVec 32 := 1#32
  let v1732 : BitVec 32 := Scalar.muli v50 c1_i32_2184
  let v1733 : BitVec 32 := Scalar.addi c0_i32_2185 v1732
  v1733.toNat
def k0_dev50 (d0 : Dev nD) : Nat :=
  let c0_i32_2228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_2227 : BitVec 32 := 1#32
  let v1762 : BitVec 32 := Scalar.muli v54 c1_i32_2227
  let v1763 : BitVec 32 := Scalar.addi c0_i32_2228 v1762
  v1763.toNat
def k0_dev51 (d0 : Dev nD) : Nat :=
  let c0_i32_2270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_2269 : BitVec 32 := 1#32
  let v1792 : BitVec 32 := Scalar.muli v50 c1_i32_2269
  let v1793 : BitVec 32 := Scalar.addi c0_i32_2270 v1792
  v1793.toNat
def k0_dev52 (d0 : Dev nD) : Nat :=
  let c0_i32_2313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_2312 : BitVec 32 := 1#32
  let v1822 : BitVec 32 := Scalar.muli v54 c1_i32_2312
  let v1823 : BitVec 32 := Scalar.addi c0_i32_2313 v1822
  v1823.toNat
def k0_dev53 (d0 : Dev nD) : Nat :=
  let c0_i32_2378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_2377 : BitVec 32 := 1#32
  let v1871 : BitVec 32 := Scalar.muli v29 c1_i32_2377
  let v1872 : BitVec 32 := Scalar.addi c0_i32_2378 v1871
  v1872.toNat
def k0_dev54 (d0 : Dev nD) : Nat :=
  let c0_i32_2442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_2441 : BitVec 32 := 1#32
  let v1919 : BitVec 32 := Scalar.muli v46 c1_i32_2441
  let v1920 : BitVec 32 := Scalar.addi c0_i32_2442 v1919
  v1920.toNat
def k0_dev55 (d0 : Dev nD) : Nat :=
  let c0_i32_2508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_2507 : BitVec 32 := 1#32
  let v1968 : BitVec 32 := Scalar.muli v29 c1_i32_2507
  let v1969 : BitVec 32 := Scalar.addi c0_i32_2508 v1968
  v1969.toNat
def k0_dev56 (d0 : Dev nD) : Nat :=
  let c0_i32_2573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_2572 : BitVec 32 := 1#32
  let v2016 : BitVec 32 := Scalar.muli v46 c1_i32_2572
  let v2017 : BitVec 32 := Scalar.addi c0_i32_2573 v2016
  v2017.toNat
def k0_dev57 (d0 : Dev nD) : Nat :=
  let c0_i32_2639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_2638 : BitVec 32 := 1#32
  let v2065 : BitVec 32 := Scalar.muli v29 c1_i32_2638
  let v2066 : BitVec 32 := Scalar.addi c0_i32_2639 v2065
  v2066.toNat
def k0_dev58 (d0 : Dev nD) : Nat :=
  let c0_i32_2704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_2703 : BitVec 32 := 1#32
  let v2113 : BitVec 32 := Scalar.muli v46 c1_i32_2703
  let v2114 : BitVec 32 := Scalar.addi c0_i32_2704 v2113
  v2114.toNat
def k0_dev59 (d0 : Dev nD) : Nat :=
  let c0_i32_2770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_2769 : BitVec 32 := 1#32
  let v2162 : BitVec 32 := Scalar.muli v29 c1_i32_2769
  let v2163 : BitVec 32 := Scalar.addi c0_i32_2770 v2162
  v2163.toNat
def k0_dev60 (d0 : Dev nD) : Nat :=
  let c0_i32_2835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_2834 : BitVec 32 := 1#32
  let v2210 : BitVec 32 := Scalar.muli v46 c1_i32_2834
  let v2211 : BitVec 32 := Scalar.addi c0_i32_2835 v2210
  v2211.toNat
def k0_dev61 (d0 : Dev nD) : Nat :=
  let c0_i32_2899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_2898 : BitVec 32 := 1#32
  let v2259 : BitVec 32 := Scalar.muli v29 c1_i32_2898
  let v2260 : BitVec 32 := Scalar.addi c0_i32_2899 v2259
  v2260.toNat
def k0_dev62 (d0 : Dev nD) : Nat :=
  let c0_i32_2963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_2962 : BitVec 32 := 1#32
  let v2307 : BitVec 32 := Scalar.muli v46 c1_i32_2962
  let v2308 : BitVec 32 := Scalar.addi c0_i32_2963 v2307
  v2308.toNat
def k0_dev63 (d0 : Dev nD) : Nat :=
  let c0_i32_3029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_3028 : BitVec 32 := 1#32
  let v2356 : BitVec 32 := Scalar.muli v29 c1_i32_3028
  let v2357 : BitVec 32 := Scalar.addi c0_i32_3029 v2356
  v2357.toNat
def k0_dev64 (d0 : Dev nD) : Nat :=
  let c0_i32_3094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_3093 : BitVec 32 := 1#32
  let v2404 : BitVec 32 := Scalar.muli v46 c1_i32_3093
  let v2405 : BitVec 32 := Scalar.addi c0_i32_3094 v2404
  v2405.toNat
def k0_dev65 (d0 : Dev nD) : Nat :=
  let c0_i32_3160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_3159 : BitVec 32 := 1#32
  let v2453 : BitVec 32 := Scalar.muli v29 c1_i32_3159
  let v2454 : BitVec 32 := Scalar.addi c0_i32_3160 v2453
  v2454.toNat
def k0_dev66 (d0 : Dev nD) : Nat :=
  let c0_i32_3225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_3224 : BitVec 32 := 1#32
  let v2501 : BitVec 32 := Scalar.muli v46 c1_i32_3224
  let v2502 : BitVec 32 := Scalar.addi c0_i32_3225 v2501
  v2502.toNat
def k0_dev67 (d0 : Dev nD) : Nat :=
  let c0_i32_3291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_3290 : BitVec 32 := 1#32
  let v2550 : BitVec 32 := Scalar.muli v29 c1_i32_3290
  let v2551 : BitVec 32 := Scalar.addi c0_i32_3291 v2550
  v2551.toNat
def k0_dev68 (d0 : Dev nD) : Nat :=
  let c0_i32_3356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_3355 : BitVec 32 := 1#32
  let v2598 : BitVec 32 := Scalar.muli v46 c1_i32_3355
  let v2599 : BitVec 32 := Scalar.addi c0_i32_3356 v2598
  v2599.toNat
def k0_dev69 (d0 : Dev nD) : Nat :=
  let c0_i32_3402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_3401 : BitVec 32 := 1#32
  let v2629 : BitVec 32 := Scalar.muli v50 c1_i32_3401
  let v2630 : BitVec 32 := Scalar.addi c0_i32_3402 v2629
  v2630.toNat
def k0_dev70 (d0 : Dev nD) : Nat :=
  let c0_i32_3448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_3447 : BitVec 32 := 1#32
  let v2660 : BitVec 32 := Scalar.muli v54 c1_i32_3447
  let v2661 : BitVec 32 := Scalar.addi c0_i32_3448 v2660
  v2661.toNat
def k0_dev71 (d0 : Dev nD) : Nat :=
  let c0_i32_3494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_3493 : BitVec 32 := 1#32
  let v2691 : BitVec 32 := Scalar.muli v50 c1_i32_3493
  let v2692 : BitVec 32 := Scalar.addi c0_i32_3494 v2691
  v2692.toNat
def k0_dev72 (d0 : Dev nD) : Nat :=
  let c0_i32_3540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_3539 : BitVec 32 := 1#32
  let v2722 : BitVec 32 := Scalar.muli v54 c1_i32_3539
  let v2723 : BitVec 32 := Scalar.addi c0_i32_3540 v2722
  v2723.toNat
def k0_dev73 (d0 : Dev nD) : Nat :=
  let c0_i32_3586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_3585 : BitVec 32 := 1#32
  let v2753 : BitVec 32 := Scalar.muli v50 c1_i32_3585
  let v2754 : BitVec 32 := Scalar.addi c0_i32_3586 v2753
  v2754.toNat
def k0_dev74 (d0 : Dev nD) : Nat :=
  let c0_i32_3632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_3631 : BitVec 32 := 1#32
  let v2784 : BitVec 32 := Scalar.muli v54 c1_i32_3631
  let v2785 : BitVec 32 := Scalar.addi c0_i32_3632 v2784
  v2785.toNat
def k0_dev75 (d0 : Dev nD) : Nat :=
  let c0_i32_3678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_3677 : BitVec 32 := 1#32
  let v2815 : BitVec 32 := Scalar.muli v50 c1_i32_3677
  let v2816 : BitVec 32 := Scalar.addi c0_i32_3678 v2815
  v2816.toNat
def k0_dev76 (d0 : Dev nD) : Nat :=
  let c0_i32_3724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_3723 : BitVec 32 := 1#32
  let v2846 : BitVec 32 := Scalar.muli v54 c1_i32_3723
  let v2847 : BitVec 32 := Scalar.addi c0_i32_3724 v2846
  v2847.toNat
def k0_dev77 (d0 : Dev nD) : Nat :=
  let c0_i32_3788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_3787 : BitVec 32 := 1#32
  let v2895 : BitVec 32 := Scalar.muli v29 c1_i32_3787
  let v2896 : BitVec 32 := Scalar.addi c0_i32_3788 v2895
  v2896.toNat
def k0_dev78 (d0 : Dev nD) : Nat :=
  let c0_i32_3853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_3852 : BitVec 32 := 1#32
  let v2943 : BitVec 32 := Scalar.muli v46 c1_i32_3852
  let v2944 : BitVec 32 := Scalar.addi c0_i32_3853 v2943
  v2944.toNat
def k0_dev79 (d0 : Dev nD) : Nat :=
  let c0_i32_3919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_3918 : BitVec 32 := 1#32
  let v2992 : BitVec 32 := Scalar.muli v29 c1_i32_3918
  let v2993 : BitVec 32 := Scalar.addi c0_i32_3919 v2992
  v2993.toNat
def k0_dev80 (d0 : Dev nD) : Nat :=
  let c0_i32_3984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_3983 : BitVec 32 := 1#32
  let v3040 : BitVec 32 := Scalar.muli v46 c1_i32_3983
  let v3041 : BitVec 32 := Scalar.addi c0_i32_3984 v3040
  v3041.toNat
def k0_dev81 (d0 : Dev nD) : Nat :=
  let c0_i32_4050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_4049 : BitVec 32 := 1#32
  let v3089 : BitVec 32 := Scalar.muli v29 c1_i32_4049
  let v3090 : BitVec 32 := Scalar.addi c0_i32_4050 v3089
  v3090.toNat
def k0_dev82 (d0 : Dev nD) : Nat :=
  let c0_i32_4115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_4114 : BitVec 32 := 1#32
  let v3137 : BitVec 32 := Scalar.muli v46 c1_i32_4114
  let v3138 : BitVec 32 := Scalar.addi c0_i32_4115 v3137
  v3138.toNat
def k0_dev83 (d0 : Dev nD) : Nat :=
  let c0_i32_4181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_4180 : BitVec 32 := 1#32
  let v3186 : BitVec 32 := Scalar.muli v29 c1_i32_4180
  let v3187 : BitVec 32 := Scalar.addi c0_i32_4181 v3186
  v3187.toNat
def k0_dev84 (d0 : Dev nD) : Nat :=
  let c0_i32_4246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_4245 : BitVec 32 := 1#32
  let v3234 : BitVec 32 := Scalar.muli v46 c1_i32_4245
  let v3235 : BitVec 32 := Scalar.addi c0_i32_4246 v3234
  v3235.toNat
def k0_off9 (d0 : Dev nD) : Fin 4 → Nat :=
  let c0_i32_4505 : BitVec 32 := 0#32
  let c2_i32_4506 : BitVec 32 := 2#32
  let c2_i32_4502 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c_m1_i32_4491 : BitVec 32 := 4294967295#32
  let v3412 : BitVec 32 := Scalar.addi v12 c_m1_i32_4491
  let c16_i32_4492 : BitVec 32 := 16#32
  let v3413 : BitVec 32 := Scalar.addi v3412 c16_i32_4492
  let c8_i32_4493 : BitVec 32 := 8#32
  let v3414 : BitVec 32 := Scalar.remsi v3413 c8_i32_4493
  let c1_i32_4494 : BitVec 32 := 1#32
  let v3415 : BitVec 1 := Scalar.cmpi .sge v3414 c1_i32_4494
  let c4_i32_4495 : BitVec 32 := 4#32
  let v3416 : BitVec 1 := Scalar.cmpi .sle v3414 c4_i32_4495
  let v3417 : BitVec 1 := Scalar.andi v3415 v3416
  let c1_i32_4496 : BitVec 32 := 1#32
  let c0_i32_4497 : BitVec 32 := 0#32
  let v3418 : BitVec 32 := Scalar.select v3417 c1_i32_4496 c0_i32_4497
  let c1_i32_4498 : BitVec 32 := 1#32
  let v3419 : BitVec 1 := Scalar.cmpi .eq v3418 c1_i32_4498
  let c1_i32_4499 : BitVec 32 := 1#32
  let v3420 : BitVec 32 := Scalar.subi v3414 c1_i32_4499
  let c8_i32_4500 : BitVec 32 := 8#32
  let v3421 : BitVec 32 := Scalar.subi c8_i32_4500 v3414
  let c8_i32_4501 : BitVec 32 := 8#32
  let v3422 : BitVec 32 := Scalar.remsi v3421 c8_i32_4501
  let v3423 : BitVec 32 := Scalar.select v3419 v3420 v3422
  let v3424 : BitVec 32 := Scalar.muli c2_i32_4502 v3423
  let v3425 : BitVec 32 := Scalar.addi v3418 v3423
  let c2_i32_4503 : BitVec 32 := 2#32
  let v3426 : BitVec 32 := Scalar.remsi v3425 c2_i32_4503
  let v3427 : BitVec 32 := Scalar.addi v3424 v3426
  let c64_i32_4504 : BitVec 32 := 64#32
  let v3428 : BitVec 32 := Scalar.muli v3427 c64_i32_4504
  let c0_i32_4517 : BitVec 32 := 0#32
  ![0, 2, v3428.toNat, 0]
def k0_dev85 (d0 : Dev nD) : Nat :=
  let c0_i32_4514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_4513 : BitVec 32 := 1#32
  let v3429 : BitVec 32 := Scalar.muli v29 c1_i32_4513
  let v3430 : BitVec 32 := Scalar.addi c0_i32_4514 v3429
  v3430.toNat
def k0_off10 (d0 : Dev nD) : Fin 4 → Nat :=
  let c1_i32_4532 : BitVec 32 := 1#32
  let c2_i32_4533 : BitVec 32 := 2#32
  let c2_i32_4529 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_4518 : BitVec 32 := 1#32
  let v3439 : BitVec 32 := Scalar.addi v12 c1_i32_4518
  let c16_i32_4519 : BitVec 32 := 16#32
  let v3440 : BitVec 32 := Scalar.addi v3439 c16_i32_4519
  let c8_i32_4520 : BitVec 32 := 8#32
  let v3441 : BitVec 32 := Scalar.remsi v3440 c8_i32_4520
  let c1_i32_4521 : BitVec 32 := 1#32
  let v3442 : BitVec 1 := Scalar.cmpi .sge v3441 c1_i32_4521
  let c4_i32_4522 : BitVec 32 := 4#32
  let v3443 : BitVec 1 := Scalar.cmpi .sle v3441 c4_i32_4522
  let v3444 : BitVec 1 := Scalar.andi v3442 v3443
  let c1_i32_4523 : BitVec 32 := 1#32
  let c0_i32_4524 : BitVec 32 := 0#32
  let v3445 : BitVec 32 := Scalar.select v3444 c1_i32_4523 c0_i32_4524
  let c1_i32_4525 : BitVec 32 := 1#32
  let v3446 : BitVec 1 := Scalar.cmpi .eq v3445 c1_i32_4525
  let c1_i32_4526 : BitVec 32 := 1#32
  let v3447 : BitVec 32 := Scalar.subi v3441 c1_i32_4526
  let c8_i32_4527 : BitVec 32 := 8#32
  let v3448 : BitVec 32 := Scalar.subi c8_i32_4527 v3441
  let c8_i32_4528 : BitVec 32 := 8#32
  let v3449 : BitVec 32 := Scalar.remsi v3448 c8_i32_4528
  let v3450 : BitVec 32 := Scalar.select v3446 v3447 v3449
  let v3451 : BitVec 32 := Scalar.muli c2_i32_4529 v3450
  let v3452 : BitVec 32 := Scalar.addi v3445 v3450
  let c2_i32_4530 : BitVec 32 := 2#32
  let v3453 : BitVec 32 := Scalar.remsi v3452 c2_i32_4530
  let v3454 : BitVec 32 := Scalar.addi v3451 v3453
  let c64_i32_4531 : BitVec 32 := 64#32
  let v3455 : BitVec 32 := Scalar.muli v3454 c64_i32_4531
  let c0_i32_4544 : BitVec 32 := 0#32
  ![1, 2, v3455.toNat, 0]
def k0_dev86 (d0 : Dev nD) : Nat :=
  let c0_i32_4541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_4540 : BitVec 32 := 1#32
  let v3456 : BitVec 32 := Scalar.muli v46 c1_i32_4540
  let v3457 : BitVec 32 := Scalar.addi c0_i32_4541 v3456
  v3457.toNat
def k0_dev87 (d0 : Dev nD) : Nat :=
  let c0_i32_4601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_4600 : BitVec 32 := 1#32
  let v3505 : BitVec 32 := Scalar.muli v50 c1_i32_4600
  let v3506 : BitVec 32 := Scalar.addi c0_i32_4601 v3505
  v3506.toNat
def k0_dev88 (d0 : Dev nD) : Nat :=
  let c0_i32_4663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_4662 : BitVec 32 := 1#32
  let v3553 : BitVec 32 := Scalar.muli v54 c1_i32_4662
  let v3554 : BitVec 32 := Scalar.addi c0_i32_4663 v3553
  v3554.toNat
def k0_off11 (d0 : Dev nD) (c_m2_i32_4681 : BitVec 32) : Fin 4 → Nat :=
  let c0_4699 : Index := 0#32
  let c2_4700 : Index := 2#32
  let c2_i32_4692 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let v3571 : BitVec 32 := Scalar.addi v12 c_m2_i32_4681
  let c32_i32_4682 : BitVec 32 := 32#32
  let v3572 : BitVec 32 := Scalar.addi v3571 c32_i32_4682
  let c8_i32_4683 : BitVec 32 := 8#32
  let v3573 : BitVec 32 := Scalar.remsi v3572 c8_i32_4683
  let c1_i32_4684 : BitVec 32 := 1#32
  let v3574 : BitVec 1 := Scalar.cmpi .sge v3573 c1_i32_4684
  let c4_i32_4685 : BitVec 32 := 4#32
  let v3575 : BitVec 1 := Scalar.cmpi .sle v3573 c4_i32_4685
  let v3576 : BitVec 1 := Scalar.andi v3574 v3575
  let c1_i32_4686 : BitVec 32 := 1#32
  let c0_i32_4687 : BitVec 32 := 0#32
  let v3577 : BitVec 32 := Scalar.select v3576 c1_i32_4686 c0_i32_4687
  let c1_i32_4688 : BitVec 32 := 1#32
  let v3578 : BitVec 1 := Scalar.cmpi .eq v3577 c1_i32_4688
  let c1_i32_4689 : BitVec 32 := 1#32
  let v3579 : BitVec 32 := Scalar.subi v3573 c1_i32_4689
  let c8_i32_4690 : BitVec 32 := 8#32
  let v3580 : BitVec 32 := Scalar.subi c8_i32_4690 v3573
  let c8_i32_4691 : BitVec 32 := 8#32
  let v3581 : BitVec 32 := Scalar.remsi v3580 c8_i32_4691
  let v3582 : BitVec 32 := Scalar.select v3578 v3579 v3581
  let v3583 : BitVec 32 := Scalar.muli c2_i32_4692 v3582
  let v3584 : BitVec 32 := Scalar.addi v3577 v3582
  let c2_i32_4693 : BitVec 32 := 2#32
  let v3585 : BitVec 32 := Scalar.remsi v3584 c2_i32_4693
  let v3586 : BitVec 32 := Scalar.addi v3583 v3585
  let c64_i32_4698 : BitVec 32 := 64#32
  let v3589 : BitVec 32 := Scalar.muli v3586 c64_i32_4698
  let v3590 : Index := Scalar.indexCast v3589
  let c0_4701 : Index := 0#32
  ![0, 2, v3590.toNat, 0]
def k0_dev89 (d0 : Dev nD) : Nat :=
  let c0_i32_4715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_4714 : BitVec 32 := 1#32
  let v3597 : BitVec 32 := Scalar.muli v29 c1_i32_4714
  let v3598 : BitVec 32 := Scalar.addi c0_i32_4715 v3597
  v3598.toNat
def k0_off12 (d0 : Dev nD) (c2_i32_4733 : BitVec 32) : Fin 4 → Nat :=
  let c1_4751 : Index := 1#32
  let c2_4752 : Index := 2#32
  let c2_i32_4744 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let v3615 : BitVec 32 := Scalar.addi v12 c2_i32_4733
  let c32_i32_4734 : BitVec 32 := 32#32
  let v3616 : BitVec 32 := Scalar.addi v3615 c32_i32_4734
  let c8_i32_4735 : BitVec 32 := 8#32
  let v3617 : BitVec 32 := Scalar.remsi v3616 c8_i32_4735
  let c1_i32_4736 : BitVec 32 := 1#32
  let v3618 : BitVec 1 := Scalar.cmpi .sge v3617 c1_i32_4736
  let c4_i32_4737 : BitVec 32 := 4#32
  let v3619 : BitVec 1 := Scalar.cmpi .sle v3617 c4_i32_4737
  let v3620 : BitVec 1 := Scalar.andi v3618 v3619
  let c1_i32_4738 : BitVec 32 := 1#32
  let c0_i32_4739 : BitVec 32 := 0#32
  let v3621 : BitVec 32 := Scalar.select v3620 c1_i32_4738 c0_i32_4739
  let c1_i32_4740 : BitVec 32 := 1#32
  let v3622 : BitVec 1 := Scalar.cmpi .eq v3621 c1_i32_4740
  let c1_i32_4741 : BitVec 32 := 1#32
  let v3623 : BitVec 32 := Scalar.subi v3617 c1_i32_4741
  let c8_i32_4742 : BitVec 32 := 8#32
  let v3624 : BitVec 32 := Scalar.subi c8_i32_4742 v3617
  let c8_i32_4743 : BitVec 32 := 8#32
  let v3625 : BitVec 32 := Scalar.remsi v3624 c8_i32_4743
  let v3626 : BitVec 32 := Scalar.select v3622 v3623 v3625
  let v3627 : BitVec 32 := Scalar.muli c2_i32_4744 v3626
  let v3628 : BitVec 32 := Scalar.addi v3621 v3626
  let c2_i32_4745 : BitVec 32 := 2#32
  let v3629 : BitVec 32 := Scalar.remsi v3628 c2_i32_4745
  let v3630 : BitVec 32 := Scalar.addi v3627 v3629
  let c64_i32_4750 : BitVec 32 := 64#32
  let v3633 : BitVec 32 := Scalar.muli v3630 c64_i32_4750
  let v3634 : Index := Scalar.indexCast v3633
  let c0_4753 : Index := 0#32
  ![1, 2, v3634.toNat, 0]
def k0_dev90 (d0 : Dev nD) : Nat :=
  let c0_i32_4767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_4766 : BitVec 32 := 1#32
  let v3641 : BitVec 32 := Scalar.muli v46 c1_i32_4766
  let v3642 : BitVec 32 := Scalar.addi c0_i32_4767 v3641
  v3642.toNat
def k0_dev91 (d0 : Dev nD) : Nat :=
  let c0_i32_4857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_4856 : BitVec 32 := 1#32
  let v3706 : BitVec 32 := Scalar.muli v50 c1_i32_4856
  let v3707 : BitVec 32 := Scalar.addi c0_i32_4857 v3706
  v3707.toNat
def k0_dev92 (d0 : Dev nD) : Nat :=
  let c0_i32_4946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_4945 : BitVec 32 := 1#32
  let v3770 : BitVec 32 := Scalar.muli v54 c1_i32_4945
  let v3771 : BitVec 32 := Scalar.addi c0_i32_4946 v3770
  v3771.toNat
def k0_dev93 (d0 : Dev nD) : Nat :=
  let c0_i32_4999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_4998 : BitVec 32 := 1#32
  let v3814 : BitVec 32 := Scalar.muli v29 c1_i32_4998
  let v3815 : BitVec 32 := Scalar.addi c0_i32_4999 v3814
  v3815.toNat
def k0_dev94 (d0 : Dev nD) : Nat :=
  let c0_i32_5052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_5051 : BitVec 32 := 1#32
  let v3858 : BitVec 32 := Scalar.muli v46 c1_i32_5051
  let v3859 : BitVec 32 := Scalar.addi c0_i32_5052 v3858
  v3859.toNat
def k0_dev95 (d0 : Dev nD) : Nat :=
  let c0_i32_5141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_29 : BitVec 32 := 1#32
  let v47 : BitVec 32 := Scalar.addi v3 c1_i32_29
  let c4_i32_30 : BitVec 32 := 4#32
  let v48 : BitVec 32 := Scalar.remsi v47 c4_i32_30
  let c8_i32_31 : BitVec 32 := 8#32
  let v49 : BitVec 32 := Scalar.muli v48 c8_i32_31
  let c8_i32_0 : BitVec 32 := 8#32
  let v4 : BitVec 32 := Scalar.remsi v2 c8_i32_0
  let v50 : BitVec 32 := Scalar.addi v49 v4
  let c1_i32_5140 : BitVec 32 := 1#32
  let v3923 : BitVec 32 := Scalar.muli v50 c1_i32_5140
  let v3924 : BitVec 32 := Scalar.addi c0_i32_5141 v3923
  v3924.toNat
def k0_dev96 (d0 : Dev nD) : Nat :=
  let c0_i32_5229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v51 : BitVec 32 := Scalar.addi v3 c3_i32
  let c4_i32_32 : BitVec 32 := 4#32
  let v52 : BitVec 32 := Scalar.remsi v51 c4_i32_32
  let c8_i32_33 : BitVec 32 := 8#32
  let v53 : BitVec 32 := Scalar.muli v52 c8_i32_33
  let c8_i32_0 : BitVec 32 := 8#32
  let v4 : BitVec 32 := Scalar.remsi v2 c8_i32_0
  let v54 : BitVec 32 := Scalar.addi v53 v4
  let c1_i32_5228 : BitVec 32 := 1#32
  let v3987 : BitVec 32 := Scalar.muli v54 c1_i32_5228
  let v3988 : BitVec 32 := Scalar.addi c0_i32_5229 v3987
  v3988.toNat
def k0_dev97 (d0 : Dev nD) : Nat :=
  let c0_i32_5282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_5281 : BitVec 32 := 1#32
  let v4031 : BitVec 32 := Scalar.muli v29 c1_i32_5281
  let v4032 : BitVec 32 := Scalar.addi c0_i32_5282 v4031
  v4032.toNat
def k0_dev98 (d0 : Dev nD) : Nat :=
  let c0_i32_5335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_5334 : BitVec 32 := 1#32
  let v4075 : BitVec 32 := Scalar.muli v46 c1_i32_5334
  let v4076 : BitVec 32 := Scalar.addi c0_i32_5335 v4075
  v4076.toNat
def k0_dev99 (d0 : Dev nD) : Nat :=
  let c0_i32_5541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_5540 : BitVec 32 := 1#32
  let v4244 : BitVec 32 := Scalar.muli v29 c1_i32_5540
  let v4245 : BitVec 32 := Scalar.addi c0_i32_5541 v4244
  v4245.toNat
def k0_dev100 (d0 : Dev nD) : Nat :=
  let c0_i32_5594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_5593 : BitVec 32 := 1#32
  let v4288 : BitVec 32 := Scalar.muli v46 c1_i32_5593
  let v4289 : BitVec 32 := Scalar.addi c0_i32_5594 v4288
  v4289.toNat
def k0_dev101 (d0 : Dev nD) : Nat :=
  let c0_i32_5647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_5646 : BitVec 32 := 1#32
  let v4332 : BitVec 32 := Scalar.muli v29 c1_i32_5646
  let v4333 : BitVec 32 := Scalar.addi c0_i32_5647 v4332
  v4333.toNat
def k0_dev102 (d0 : Dev nD) : Nat :=
  let c0_i32_5700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_5699 : BitVec 32 := 1#32
  let v4376 : BitVec 32 := Scalar.muli v46 c1_i32_5699
  let v4377 : BitVec 32 := Scalar.addi c0_i32_5700 v4376
  v4377.toNat
def k0_dev103 (d0 : Dev nD) : Nat :=
  let c0_i32_5753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v13 : BitVec 32 := Scalar.muli v3 c8_i32_6
  let c2_i32_15 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_7 : BitVec 32 := 1#32
  let v14 : BitVec 32 := Scalar.addi v12 c1_i32_7
  let c8_i32_8 : BitVec 32 := 8#32
  let v15 : BitVec 32 := Scalar.remsi v14 c8_i32_8
  let c1_i32_9 : BitVec 32 := 1#32
  let v16 : BitVec 1 := Scalar.cmpi .sge v15 c1_i32_9
  let c4_i32 : BitVec 32 := 4#32
  let v17 : BitVec 1 := Scalar.cmpi .sle v15 c4_i32
  let v18 : BitVec 1 := Scalar.andi v16 v17
  let c1_i32_10 : BitVec 32 := 1#32
  let c0_i32 : BitVec 32 := 0#32
  let v19 : BitVec 32 := Scalar.select v18 c1_i32_10 c0_i32
  let c1_i32_11 : BitVec 32 := 1#32
  let v20 : BitVec 1 := Scalar.cmpi .eq v19 c1_i32_11
  let c1_i32_12 : BitVec 32 := 1#32
  let v21 : BitVec 32 := Scalar.subi v15 c1_i32_12
  let c8_i32_13 : BitVec 32 := 8#32
  let v22 : BitVec 32 := Scalar.subi c8_i32_13 v15
  let c8_i32_14 : BitVec 32 := 8#32
  let v23 : BitVec 32 := Scalar.remsi v22 c8_i32_14
  let v24 : BitVec 32 := Scalar.select v20 v21 v23
  let v25 : BitVec 32 := Scalar.muli c2_i32_15 v24
  let v26 : BitVec 32 := Scalar.addi v19 v24
  let c2_i32_16 : BitVec 32 := 2#32
  let v27 : BitVec 32 := Scalar.remsi v26 c2_i32_16
  let v28 : BitVec 32 := Scalar.addi v25 v27
  let v29 : BitVec 32 := Scalar.addi v13 v28
  let c1_i32_5752 : BitVec 32 := 1#32
  let v4420 : BitVec 32 := Scalar.muli v29 c1_i32_5752
  let v4421 : BitVec 32 := Scalar.addi c0_i32_5753 v4420
  v4421.toNat
def k0_dev104 (d0 : Dev nD) : Nat :=
  let c0_i32_5806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v30 : BitVec 32 := Scalar.muli v3 c8_i32_17
  let c2_i32_27 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c7_i32 : BitVec 32 := 7#32
  let v31 : BitVec 32 := Scalar.addi v12 c7_i32
  let c8_i32_18 : BitVec 32 := 8#32
  let v32 : BitVec 32 := Scalar.remsi v31 c8_i32_18
  let c1_i32_19 : BitVec 32 := 1#32
  let v33 : BitVec 1 := Scalar.cmpi .sge v32 c1_i32_19
  let c4_i32_20 : BitVec 32 := 4#32
  let v34 : BitVec 1 := Scalar.cmpi .sle v32 c4_i32_20
  let v35 : BitVec 1 := Scalar.andi v33 v34
  let c1_i32_21 : BitVec 32 := 1#32
  let c0_i32_22 : BitVec 32 := 0#32
  let v36 : BitVec 32 := Scalar.select v35 c1_i32_21 c0_i32_22
  let c1_i32_23 : BitVec 32 := 1#32
  let v37 : BitVec 1 := Scalar.cmpi .eq v36 c1_i32_23
  let c1_i32_24 : BitVec 32 := 1#32
  let v38 : BitVec 32 := Scalar.subi v32 c1_i32_24
  let c8_i32_25 : BitVec 32 := 8#32
  let v39 : BitVec 32 := Scalar.subi c8_i32_25 v32
  let c8_i32_26 : BitVec 32 := 8#32
  let v40 : BitVec 32 := Scalar.remsi v39 c8_i32_26
  let v41 : BitVec 32 := Scalar.select v37 v38 v40
  let v42 : BitVec 32 := Scalar.muli c2_i32_27 v41
  let v43 : BitVec 32 := Scalar.addi v36 v41
  let c2_i32_28 : BitVec 32 := 2#32
  let v44 : BitVec 32 := Scalar.remsi v43 c2_i32_28
  let v45 : BitVec 32 := Scalar.addi v42 v44
  let v46 : BitVec 32 := Scalar.addi v30 v45
  let c1_i32_5805 : BitVec 32 := 1#32
  let v4464 : BitVec 32 := Scalar.muli v46 c1_i32_5805
  let v4465 : BitVec 32 := Scalar.addi c0_i32_5806 v4464
  v4465.toNat
abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Copies.lean ====
/-
# The kernel's hundred copies

The kernel sums the 32 devices' partial products over a 4 by 8 mesh: planes `z` of eight devices in a ring. The columns
are cut in two halves. On the first half (`a`) a reduce-scatter round the ring of the plane comes first (`a1`, seven
steps of four blocks of 64 rows) and one along `z` after it (`a2`, three steps); on the second half (`b`) the one along
`z` comes first (`b1`, three steps of four blocks of 128 rows) and the one round the ring after it (`b2`, seven steps).
Each runs in both directions at once, on its own columns. Every copy has its own landing place, its own send semaphore
and its own receive semaphore, and is made once: it is named by its kind, its direction, its step and its block.

This file lists the copies and, for each, the device it goes to, its landing place, its source and its two semaphores,
as the printed body writes them.
-/
module

public import proofs.«01_k».proof.Proof.Gen.KernelIdeal
public import proofs.«01_k».proof.Proof.Gen.KernelIdeal.Skeleton

@[expose] public section

noncomputable section

namespace Cert.SumProof

open Cert.KernelIdeal Cert.KernelIdeal.Gen
open Idealize.ShloMosaic Idealize.ShloMosaic.TcCoe

/-- A copy: kind, direction (`false`: to the next device of the ring, or up; `true`: to the one before, or down), step
    and block. -/
inductive Copy
  | a1 (d : Bool) (h : Fin 7) (g : Fin 4)
  | a2 (d : Bool) (h : Fin 3)
  | b1 (d : Bool) (h : Fin 3) (s : Fin 4)
  | b2 (d : Bool) (h : Fin 7)
  deriving DecidableEq

/-- A copy's number among the send semaphores, and among the receive semaphores: the arrays are laid one after the other. -/
def Copy.num : Copy → ℕ
  | .a1 d h g => 3 + (d.toNat * 28 + h.val * 4 + g.val)
  | .a2 d h => 115 + (d.toNat * 3 + h.val)
  | .b1 d h s => 127 + (d.toNat * 12 + h.val * 4 + s.val)
  | .b2 d h => 175 + (d.toNat * 7 + h.val)
def Copy.num' : Copy → ℕ
  | .a1 d h g => 59 + (d.toNat * 28 + h.val * 4 + g.val)
  | .a2 d h => 121 + (d.toNat * 3 + h.val)
  | .b1 d h s => 151 + (d.toNat * 12 + h.val * 4 + s.val)
  | .b2 d h => 189 + (d.toNat * 7 + h.val)

/-- All hundred, kind by kind. -/
def Copy.all : List Copy :=
  ([false, true].flatMap fun d => (List.finRange 7).flatMap fun h => (List.finRange 4).map fun g => .a1 d h g)
  ++ ([false, true].flatMap fun d => (List.finRange 3).map fun h => .a2 d h)
  ++ ([false, true].flatMap fun d => (List.finRange 3).flatMap fun h => (List.finRange 4).map fun s => .b1 d h s)
  ++ ([false, true].flatMap fun d => (List.finRange 7).map fun h => .b2 d h)

theorem Copy.all_nodup : Copy.all.Nodup := List.Nodup.of_map Copy.num (by decide +kernel)
theorem Copy.mem_all (k : Copy) : k ∈ Copy.all := by
  cases k with
  | a1 d h g => revert d h g; decide +kernel
  | a2 d h => revert d h; decide +kernel
  | b1 d h s => revert d h s; decide +kernel
  | b2 d h => revert d h; decide +kernel

instance : Fintype Copy := ⟨⟨Copy.all, Copy.all_nodup⟩, Copy.mem_all⟩

/-! ## The mesh -/

/-- The four neighbours in the order the body signals them: next in the ring, before in the ring, up, down. -/
inductive Side
  | succ | pred | up | down
  deriving DecidableEq

instance : Fintype Side := ⟨⟨([.succ, .pred, .up, .down] : List Side), by decide⟩, fun s => by cases s <;> decide⟩

/-- The neighbour of `c` on a side, as the body computes it. -/
def nb (c : Dev nD) : Side → Dev nD
  | .succ => ⟨k0_dev1 c, k0_dev1_lt c⟩
  | .pred => ⟨k0_dev2 c, k0_dev2_lt c⟩
  | .up => ⟨k0_dev3 c, k0_dev3_lt c⟩
  | .down => ⟨k0_dev4 c, k0_dev4_lt c⟩

/-- The side a direction goes to, in the ring and along `z`, -/
def ringSide : Bool → Side | false => .succ | true => .pred
def zSide : Bool → Side | false => .up | true => .down

/-- and the side a copy goes to. -/
def Copy.side : Copy → Side
  | .a1 d _ _ => ringSide d
  | .a2 d _ => zSide d
  | .b1 d _ _ => zSide d
  | .b2 d _ => ringSide d

/-- The device a copy made by `c` goes to. -/
abbrev tgt (c : Dev nD) (k : Copy) : Dev nD := nb c k.side

/-! ## The buffers -/

abbrev xM : Memref sig .tc .vmem S2048x64 .f32 := Memref.whole cc0_stg0_0
abbrev wM : Memref sig .tc .vmem S64x2048 .f32 := Memref.whole cc0_stg1_0
abbrev oM : Memref sig .tc .vmem S64x2048 .f32 := Memref.whole cc0_stg2_0
/-- The device's partial product, 2048 by 2048. -/
abbrev pM : Memref sig .tc .vmem S2048x2048 .f32 := Memref.whole cc0_scratch0
abbrev a1M : Memref sig .tc .vmem S2x7x4x64x768 .f32 := Memref.whole cc0_scratch1
abbrev a2M : Memref sig .tc .vmem S2x3x64x768 .f32 := Memref.whole cc0_scratch2
abbrev b1M : Memref sig .tc .vmem S2x3x512x256 .f32 := Memref.whole cc0_scratch3
abbrev b2M : Memref sig .tc .vmem S2x7x64x256 .f32 := Memref.whole cc0_scratch4

/-- The shape of what a copy carries. -/
abbrev shp : Copy → Shape
  | .a1 .. => S64x768
  | .a2 .. => S64x768
  | .b1 .. => S128x256
  | .b2 .. => S64x256

theorem inb_a1 (d : Bool) (h : Fin 7) (g : Fin 4) : ∀ a, (![d.toNat, h.val, g.val, 0, 0] : Fin 5 → Nat) a + S1x1x1x64x768.size a ≤ S2x7x4x64x768.size a := by
  revert d h g; decide
theorem inb_a2 (d : Bool) (h : Fin 3) : ∀ a, (![d.toNat, h.val, 0, 0] : Fin 4 → Nat) a + S1x1x64x768.size a ≤ S2x3x64x768.size a := by
  revert d h; decide
theorem inb_b1 (d : Bool) (h : Fin 3) (s : Fin 4) : ∀ a, (![d.toNat, h.val, 128 * s.val, 0] : Fin 4 → Nat) a + S1x1x128x256.size a ≤ S2x3x512x256.size a := by
  revert d h s; decide
theorem inb_b2 (d : Bool) (h : Fin 7) : ∀ a, (![d.toNat, h.val, 0, 0] : Fin 4 → Nat) a + S1x1x64x256.size a ≤ S2x7x64x256.size a := by
  revert d h; decide

abbrev a1R (d : Bool) (h : Fin 7) (g : Fin 4) : Rect S2x7x4x64x768 := Rect.unit ![d.toNat, h.val, g.val, 0, 0] S1x1x1x64x768.size (inb_a1 d h g)
abbrev a2R (d : Bool) (h : Fin 3) : Rect S2x3x64x768 := Rect.unit ![d.toNat, h.val, 0, 0] S1x1x64x768.size (inb_a2 d h)
abbrev b1R (d : Bool) (h : Fin 3) (s : Fin 4) : Rect S2x3x512x256 := Rect.unit ![d.toNat, h.val, 128 * s.val, 0] S1x1x128x256.size (inb_b1 d h s)
abbrev b2R (d : Bool) (h : Fin 7) : Rect S2x7x64x256 := Rect.unit ![d.toNat, h.val, 0, 0] S1x1x64x256.size (inb_b2 d h)

/-- Where a copy lands. -/
def slotM : (k : Copy) → Memref sig .tc .vmem (shp k) .f32
  | .a1 d h g => (a1M.slice (a1R d h g) (fun _ => rfl)).squeeze S64x768 squeezes_S1x1x1x64x768_S64x768
  | .a2 d h => (a2M.slice (a2R d h) (fun _ => rfl)).squeeze S64x768 squeezes_S1x1x64x768_S64x768
  | .b1 d h s => (b1M.slice (b1R d h s) (fun _ => rfl)).squeeze S128x256 squeezes_S1x1x128x256_S128x256
  | .b2 d h => (b2M.slice (b2R d h) (fun _ => rfl)).squeeze S64x256 squeezes_S1x1x64x256_S64x256

/-- Where a copy made by `c` reads. -/
def srcM (c : Dev nD) : (k : Copy) → Memref sig .tc .vmem (shp k) .f32
  | .a1 false ⟨0, _⟩ g => pM.slice (Rect.unit (k0_off1 c (BitVec.ofNat 32 g.val)) S64x768.size (k0_off1_inb c g)) (fun _ => rfl)
  | .a1 true ⟨0, _⟩ g => pM.slice (Rect.unit (k0_off2 c (BitVec.ofNat 32 g.val)) S64x768.size (k0_off2_inb c g)) (fun _ => rfl)
  | .a1 d ⟨h + 1, hh⟩ g => slotM (.a1 d ⟨h, Nat.lt_of_succ_lt hh⟩ g)
  | .a2 d ⟨0, _⟩ => slotM (.a1 d 6 0)
  | .a2 d ⟨h + 1, hh⟩ => slotM (.a2 d ⟨h, Nat.lt_of_succ_lt hh⟩)
  | .b1 false ⟨0, _⟩ s => pM.slice (Rect.unit (k0_off3 c (BitVec.ofNat 32 (128 * s.val))) S128x256.size (k0_off3_inb c s)) (fun _ => rfl)
  | .b1 true ⟨0, _⟩ s => pM.slice (Rect.unit (k0_off4 c (BitVec.ofNat 32 (128 * s.val))) S128x256.size (k0_off4_inb c s)) (fun _ => rfl)
  | .b1 d ⟨h + 1, hh⟩ s => slotM (.b1 d ⟨h, Nat.lt_of_succ_lt hh⟩ s)
  | .b2 false ⟨0, _⟩ => (b1M.slice (Rect.unit (k0_off9 c) S1x1x64x256.size (k0_off9_inb c)) (fun _ => rfl)).squeeze S64x256 squeezes_S1x1x64x256_S64x256
  | .b2 true ⟨0, _⟩ => (b1M.slice (Rect.unit (k0_off10 c) S1x1x64x256.size (k0_off10_inb c)) (fun _ => rfl)).squeeze S64x256 squeezes_S1x1x64x256_S64x256
  | .b2 d ⟨h + 1, hh⟩ => slotM (.b2 d ⟨h, Nat.lt_of_succ_lt hh⟩)

/-! ## The semaphores -/

theorem inb_s3 (d : Bool) (h : Fin 7) (g : Fin 4) : ∀ a, (![d.toNat, h.val, g.val] : Fin 3 → Nat) a + S1x1x1.size a ≤ S2x7x4.size a := by
  revert d h g; decide
theorem inb_s3' (d : Bool) (h : Fin 3) (s : Fin 4) : ∀ a, (![d.toNat, h.val, s.val] : Fin 3 → Nat) a + S1x1x1.size a ≤ S2x3x4.size a := by
  revert d h s; decide
theorem inb_s2 (d : Bool) (h : Fin 3) : ∀ a, (![d.toNat, h.val] : Fin 2 → Nat) a + S1x1.size a ≤ S2x3.size a := by
  revert d h; decide
theorem inb_s2' (d : Bool) (h : Fin 7) : ∀ a, (![d.toNat, h.val] : Fin 2 → Nat) a + S1x1.size a ≤ S2x7.size a := by
  revert d h; decide

/-- A copy's send semaphore. -/
def sendS : Copy → DmaSem sig
  | .a1 d h g => ((cc0_scratch5.slice (Rect.unit (s := S2x7x4) ![d.toNat, h.val, g.val] S1x1x1.size (inb_s3 d h g))).squeeze S_ squeezes_S1x1x1_S_).sem
  | .a2 d h => ((cc0_scratch7.slice (Rect.unit (s := S2x3) ![d.toNat, h.val] S1x1.size (inb_s2 d h))).squeeze S_ squeezes_S1x1_S_).sem
  | .b1 d h s => ((cc0_scratch9.slice (Rect.unit (s := S2x3x4) ![d.toNat, h.val, s.val] S1x1x1.size (inb_s3' d h s))).squeeze S_ squeezes_S1x1x1_S_).sem
  | .b2 d h => ((cc0_scratch11.slice (Rect.unit (s := S2x7) ![d.toNat, h.val] S1x1.size (inb_s2' d h))).squeeze S_ squeezes_S1x1_S_).sem

/-- A copy's receive semaphore. -/
def recvS : Copy → DmaSem sig
  | .a1 d h g => ((cc0_scratch6.slice (Rect.unit (s := S2x7x4) ![d.toNat, h.val, g.val] S1x1x1.size (inb_s3 d h g))).squeeze S_ squeezes_S1x1x1_S_).sem
  | .a2 d h => ((cc0_scratch8.slice (Rect.unit (s := S2x3) ![d.toNat, h.val] S1x1.size (inb_s2 d h))).squeeze S_ squeezes_S1x1_S_).sem
  | .b1 d h s => ((cc0_scratch10.slice (Rect.unit (s := S2x3x4) ![d.toNat, h.val, s.val] S1x1x1.size (inb_s3' d h s))).squeeze S_ squeezes_S1x1x1_S_).sem
  | .b2 d h => ((cc0_scratch12.slice (Rect.unit (s := S2x7) ![d.toNat, h.val] S1x1.size (inb_s2' d h))).squeeze S_ squeezes_S1x1_S_).sem

theorem sendS_val (k : Copy) : (sendS k).val = k.num := by revert k; decide +kernel
theorem recvS_val (k : Copy) : (recvS k).val = k.num' := by revert k; decide +kernel

end Cert.SumProof

end
-- ==== Proof.Mesh.lean ====
/-
# The mesh in closed form

Planes `z` of eight devices; in a plane the devices are joined in a ring, position `t` of which is device `rq t`. Every
place the body reads or writes is found from the device's own plane and position by counting planes and positions in the
direction of the copy.
-/
module

public import proofs.«01_k».proof.Proof.Copies

@[expose] public section

noncomputable section

namespace Cert.SumProof

open Cert.KernelIdeal Cert.KernelIdeal.Gen
open Idealize.ShloMosaic Idealize.ShloMosaic.TcCoe

/-- The device at a position of the ring, counted within its plane; positions are counted round. -/
def rq (t : ℕ) : ℕ := match t % 8 with
  | 0 => 0 | 1 => 1 | 2 => 2 | 3 => 5 | 4 => 6 | 5 => 7 | 6 => 4 | _ => 3

theorem rq_lt (t : ℕ) : rq t < 8 := by
  have h : ∀ n : Fin 8, rq n.val < 8 := by decide
  have e : rq t = rq (t % 8) := by simp only [rq, Nat.mod_mod]
  rw [e]; exact h ⟨t % 8, Nat.mod_lt _ (by decide)⟩

/-- A device's position in its ring, and its plane. -/
def rpos (c : Dev nD) : ℕ := match c.val % 8 with
  | 0 => 0 | 1 => 1 | 2 => 2 | 3 => 7 | 4 => 6 | 5 => 3 | 6 => 4 | _ => 5
def zpos (c : Dev nD) : ℕ := c.val / 8

/-- One position further from the direction's receiver (`false` sends to the next position, `true` to the one before), and
    one plane further. -/
def sr (d : Bool) : ℕ := if d then 1 else 7
def sz (d : Bool) : ℕ := if d then 1 else 3

/-- The plane `t` further, and the device of a plane `t` positions further. -/
def zrel (c : Dev nD) (d : Bool) (t : ℕ) : ℕ := (zpos c + sz d * t) % 4
def rrel (c : Dev nD) (d : Bool) (t : ℕ) : ℕ := rq (rpos c + sr d * t)

theorem zrel_lt (c : Dev nD) (d : Bool) (t : ℕ) : zrel c d t < 4 := Nat.mod_lt _ (by decide)
theorem rrel_lt (c : Dev nD) (d : Bool) (t : ℕ) : rrel c d t < 8 := rq_lt _

/-- The block of 64 rows meant for the device `1 + j` planes and `t` positions further. -/
def blk (c : Dev nD) (d : Bool) (j t : ℕ) : ℕ := 8 * zrel c d (1 + j) + rrel c d t

theorem blk_lt (c : Dev nD) (d : Bool) (j t : ℕ) : blk c d j t < 32 := by
  have := zrel_lt c d (1 + j); have := rrel_lt c d t; unfold blk; omega

/-! ## The neighbours -/

/-- The side seen from the other end. -/
def Side.opp : Side → Side
  | .succ => .pred | .pred => .succ | .up => .down | .down => .up

theorem Side.opp_opp (j : Side) : j.opp.opp = j := by cases j <;> rfl
theorem nb_opp (c : Dev nD) (j : Side) : nb (nb c j) j.opp = c := by revert c j; decide +kernel
theorem nb_opp' (c : Dev nD) (j : Side) : nb (nb c j.opp) j = c := by revert c j; decide +kernel
theorem nb_inj (j : Side) : Function.Injective fun c => nb c j := fun c c' h => by
  rw [← nb_opp c j, ← nb_opp c' j]; exact congrArg (nb · j.opp) h

/-- The device a copy comes from. -/
abbrev frm (c : Dev nD) (k : Copy) : Dev nD := nb c k.side.opp

theorem tgt_frm (c : Dev nD) (k : Copy) : tgt (frm c k) k = c := nb_opp' c k.side
theorem frm_tgt (c : Dev nD) (k : Copy) : frm (tgt c k) k = c := nb_opp c k.side

/-! ## The offsets -/

theorem off1_eq (c : Dev nD) (g : Fin 4) : k0_off1 c (BitVec.ofNat 32 g.val) = ![64 * blk c false g 1, 768 * Bool.toNat false] := by revert c g; decide +kernel
theorem off2_eq (c : Dev nD) (g : Fin 4) : k0_off2 c (BitVec.ofNat 32 g.val) = ![64 * blk c true g 1, 768 * Bool.toNat true] := by revert c g; decide +kernel
theorem off3_eq (c : Dev nD) (s : Fin 4) : k0_off3 c (BitVec.ofNat 32 (128 * s.val)) = ![512 * zrel c false 1 + 128 * s.val, 1536 + 256 * Bool.toNat false] := by revert c s; decide +kernel
theorem off4_eq (c : Dev nD) (s : Fin 4) : k0_off4 c (BitVec.ofNat 32 (128 * s.val)) = ![512 * zrel c true 1 + 128 * s.val, 1536 + 256 * Bool.toNat true] := by revert c s; decide +kernel
theorem off5_eq (c : Dev nD) (g : Fin 4) (h : Fin 7) : k0_off5 c (BitVec.ofNat 32 g.val) (BitVec.ofNat 32 (4294967288 + (Fin.rev h).val)) = ![64 * blk c false g (h + 2), 768 * Bool.toNat false] := by revert c g h; decide +kernel
theorem off6_eq (c : Dev nD) (g : Fin 4) (h : Fin 7) : k0_off6 c (BitVec.ofNat 32 g.val) (BitVec.ofNat 32 (2 + h.val)) = ![64 * blk c true g (h + 2), 768 * Bool.toNat true] := by revert c g h; decide +kernel
theorem off7_eq (c : Dev nD) (h : Fin 3) (s : Fin 4) : k0_off7 c (BitVec.ofNat 32 (4294967292 + (Fin.rev h).val)) (BitVec.ofNat 32 (128 * s.val)) = ![512 * zrel c false (h + 2) + 128 * s.val, 1536 + 256 * Bool.toNat false] := by revert c h s; decide +kernel
theorem off8_eq (c : Dev nD) (h : Fin 3) (s : Fin 4) : k0_off8 c (BitVec.ofNat 32 (2 + h.val)) (BitVec.ofNat 32 (128 * s.val)) = ![512 * zrel c true (h + 2) + 128 * s.val, 1536 + 256 * Bool.toNat true] := by revert c h s; decide +kernel
theorem off9_eq (c : Dev nD) : k0_off9 c = ![Bool.toNat false, 2, 64 * rrel c false 1, 0] := by revert c; decide +kernel
theorem off10_eq (c : Dev nD) : k0_off10 c = ![Bool.toNat true, 2, 64 * rrel c true 1, 0] := by revert c; decide +kernel
theorem off11_eq (c : Dev nD) (h : Fin 7) : k0_off11 c (BitVec.ofNat 32 (4294967288 + (Fin.rev h).val)) = ![Bool.toNat false, 2, 64 * rrel c false (h + 2), 0] := by revert c h; decide +kernel
theorem off12_eq (c : Dev nD) (h : Fin 7) : k0_off12 c (BitVec.ofNat 32 (2 + h.val)) = ![Bool.toNat true, 2, 64 * rrel c true (h + 2), 0] := by revert c h; decide +kernel

end Cert.SumProof

end
-- ==== Proof.Events.lean ====
/-
# The body as a list of events

After the product and the handshake the printed body is a straight line of a few kinds of event: a copy is started; a
copy's arrival is waited for; what arrived is added to; a last sum is passed through the closing function and stored; a
copy's departure is waited for. This file writes the events' programs once, at any copy, and lists the events in the
order of the body.
-/
module

public import proofs.«01_k».proof.Proof.Copies

@[expose] public section

noncomputable section

namespace Cert.SumProof

open Cert.KernelIdeal Cert.KernelIdeal.Gen
open Idealize.ShloMosaic Idealize.ShloMosaic.TcCoe Idealize.SL.Sem

variable {F : FTy → Type} [FloatOps F]

/-- The effects of the body. -/
abbrev BodyEff (F : FTy → Type) [FloatOps F] := TpuEff nD τ sig (Elt F) Λ₀ .tc

/-- An event of the body. `rows d` is no operation: it marks where the rows landed by the second half's first
    reduce-scatter, direction `d`, are complete and are cut anew for the second one. -/
inductive Ev
  | send (k : Copy)
  | recv (k : Copy)
  | add (k : Copy)
  | rows (d : Bool)
  | out (b d : Bool)
  | sent (k : Copy)
  deriving DecidableEq

/-! ## The events' programs -/

/-- Start the copy `k`, and go on. -/
def sendP (c : Dev nD) (k : Copy) (K : Prog (BodyEff F) PUnit) : Prog (BodyEff F) PUnit :=
  .op (.enqueueDma (srcM c k) (.remote (Dev.tc (tgt c k)) (slotM k) (.dma (sendS k))) (.dma (recvS k))
    (View.wordExact_bits rfl) (View.wordExact_bits rfl) ⟨⟨rfl, Or.inl rfl⟩, trivial⟩) fun _ => K

/-- Wait until the copy `k` to this device has arrived, and go on. -/
def recvP (c : Dev nD) (k : Copy) (K : Prog (BodyEff F) PUnit) : Prog (BodyEff F) PUnit :=
  .op (.waitDma2 (recvS k) (srcM c k) (slotM k) (View.wordExact_bits rfl) (View.wordExact_bits rfl)) fun _ => K

/-- Wait until the copy `k` from this device has left, and go on. -/
def sentP (c : Dev nD) (k : Copy) (K : Prog (BodyEff F) PUnit) : Prog (BodyEff F) PUnit :=
  .op (.waitDma2 (sendS k) (slotM k) (srcM c k) (View.wordExact_bits rfl) (View.wordExact_bits rfl)) fun _ => K

/-- Read the rectangle `r` of `M` at the shape `s`, add the rectangle `r₂` of `M₂` read through `e₂`, store the sum in `r`
    of `M`, and go on. -/
def addP {s₁ s₂ s : Shape} (M : Memref sig .tc .vmem s₁ .f32) (r : Rect s₁) (hp : 0 < r.shape.numel)
    (h : r.shape.ShapeCasts s) (h' : s.ShapeCasts r.shape)
    (M₂ : Memref sig .tc .vmem s₂ .f32) (r₂ : Rect s₂) (hp₂ : 0 < r₂.shape.numel) (e₂ : s.Idx → r₂.shape.Idx)
    (K : Prog (BodyEff F) PUnit) : Prog (BodyEff F) PUnit :=
  .op (.load M r.toLoadRect (View.loadsAt_vmem hp)) fun (v : Vec F r.shape .f32) =>
  .op (.load M₂ r₂.toLoadRect (View.loadsAt_vmem hp₂)) fun (w : Vec F r₂.shape .f32) =>
  .op (.load M r.toLoadRect (View.loadsAt_vmem hp)) fun _ =>
  .op (.store M r (shapeCast r.shape (addf (shapeCast s v h) (fun j => w (e₂ j)) : FVec F s .f32) h') Finset.univ
    (View.stores_vmem_bits_univ hp rfl) (.inl rfl)) fun _ => K

/-- The function the sums are closed with, `y / (1 + exp (0 - clip y))`, as the kernel computes it. -/
def closing {s : Shape} (y : FVec F s .f32) : FVec F s .f32 :=
  divf y (addf (broadcast s (Scalar.ofBits .f32 0x3f800000#32))
    (exp (subf (broadcast s (Scalar.ofBits .f32 0x00000000#32))
      (minimumf (broadcast s (Scalar.ofBits .f32 0x42700000#32))
        (maximumf (broadcast s (Scalar.ofBits .f32 0xc2700000#32)) y)))))

/-- Read the rectangle `r` of `M` at the shape `s`, add the rectangle `r₂` of `M₂`, store the closing function of the sum in
    the rectangle `r₃` of the result, and go on. -/
def outP {s₁ s₂ s : Shape} (M : Memref sig .tc .vmem s₁ .f32) (r : Rect s₁) (hp : 0 < r.shape.numel) (h : r.shape.ShapeCasts s)
    (M₂ : Memref sig .tc .vmem s₂ .f32) (r₂ : Rect s₂) (hp₂ : 0 < r₂.shape.numel) (h₂ : r₂.shape.ShapeCasts s)
    (r₃ : Rect S64x2048) (hp₃ : 0 < r₃.shape.numel) (e₃ : FVec F s .f32 → FVec F r₃.shape .f32)
    (K : Prog (BodyEff F) PUnit) : Prog (BodyEff F) PUnit :=
  .op (.load M r.toLoadRect (View.loadsAt_vmem hp)) fun (v : Vec F r.shape .f32) =>
  .op (.load M₂ r₂.toLoadRect (View.loadsAt_vmem hp₂)) fun (w : Vec F r₂.shape .f32) =>
  .op (.load oM r₃.toLoadRect (View.loadsAt_vmem hp₃)) fun _ =>
  .op (.store oM r₃ (e₃ (closing (addf (shapeCast s v h) (shapeCast s w h₂) : FVec F s .f32))) Finset.univ
    (View.stores_vmem_bits_univ hp₃ rfl) (.inl rfl)) fun _ => K

/-- Add this device's own rows to what the copy `k` brought, and go on. -/
def accP (c : Dev nD) : Copy → Prog (BodyEff F) PUnit → Prog (BodyEff F) PUnit
  | .a1 false h g => addP (s := S64x768) a1M (a1R false h g) h_S1x1x1x64x768 shapeCasts_S1x1x1x64x768_S64x768 shapeCasts_S64x768_S1x1x1x64x768
      pM (Rect.unit (k0_off5 c (BitVec.ofNat 32 g.val) (BitVec.ofNat 32 (4294967288 + (Fin.rev h).val))) S64x768.size (k0_off5_inb c g (Fin.rev h))) h_S64x768 id
  | .a1 true h g => addP (s := S64x768) a1M (a1R true h g) h_S1x1x1x64x768 shapeCasts_S1x1x1x64x768_S64x768 shapeCasts_S64x768_S1x1x1x64x768
      pM (Rect.unit (k0_off6 c (BitVec.ofNat 32 g.val) (BitVec.ofNat 32 (2 + h.val))) S64x768.size (k0_off6_inb c g h)) h_S64x768 id
  | .a2 d h => addP (s := S64x768) a2M (a2R d h) h_S1x1x64x768 shapeCasts_S1x1x64x768_S64x768 shapeCasts_S64x768_S1x1x64x768
      a1M (a1R d 6 h.succ) h_S1x1x1x64x768 (Shape.reshapeEquiv shapeCasts_S1x1x1x64x768_S64x768)
  | .b1 false h s => addP (s := S128x256) b1M (b1R false h s) h_S1x1x128x256 shapeCasts_S1x1x128x256_S128x256 shapeCasts_S128x256_S1x1x128x256
      pM (Rect.unit (k0_off7 c (BitVec.ofNat 32 (4294967292 + (Fin.rev h).val)) (BitVec.ofNat 32 (128 * s.val))) S128x256.size (k0_off7_inb c (Fin.rev h) s)) h_S128x256 id
  | .b1 true h s => addP (s := S128x256) b1M (b1R true h s) h_S1x1x128x256 shapeCasts_S1x1x128x256_S128x256 shapeCasts_S128x256_S1x1x128x256
      pM (Rect.unit (k0_off8 c (BitVec.ofNat 32 (2 + h.val)) (BitVec.ofNat 32 (128 * s.val))) S128x256.size (k0_off8_inb c h s)) h_S128x256 id
  | .b2 false h => addP (s := S64x256) b2M (b2R false h) h_S1x1x64x256 shapeCasts_S1x1x64x256_S64x256 shapeCasts_S64x256_S1x1x64x256
      b1M (Rect.unit (k0_off11 c (BitVec.ofNat 32 (4294967288 + (Fin.rev h).val))) S1x1x64x256.size (k0_off11_inb c (Fin.rev h))) h_S1x1x64x256
      (Shape.reshapeEquiv shapeCasts_S1x1x64x256_S64x256)
  | .b2 true h => addP (s := S64x256) b2M (b2R true h) h_S1x1x64x256 shapeCasts_S1x1x64x256_S64x256 shapeCasts_S64x256_S1x1x64x256
      b1M (Rect.unit (k0_off12 c (BitVec.ofNat 32 (2 + h.val))) S1x1x64x256.size (k0_off12_inb c h)) h_S1x1x64x256
      (Shape.reshapeEquiv shapeCasts_S1x1x64x256_S64x256)

/-- Where the results go: a quarter of the columns for each half and direction. -/
theorem inb_oa (d : Bool) : ∀ a, (![0, 768 * d.toNat] : Fin 2 → Nat) a + S64x768.size a ≤ S64x2048.size a := by revert d; decide
theorem inb_ob (d : Bool) : ∀ a, (![0, 1536 + 256 * d.toNat] : Fin 2 → Nat) a + S64x256.size a ≤ S64x2048.size a := by revert d; decide
abbrev oaR (d : Bool) : Rect S64x2048 := Rect.unit ![0, 768 * d.toNat] S64x768.size (inb_oa d)
abbrev obR (d : Bool) : Rect S64x2048 := Rect.unit ![0, 1536 + 256 * d.toNat] S64x256.size (inb_ob d)

/-- The last sum of a half (`false`: the first) and a direction, closed and stored. -/
def lastP (c : Dev nD) : Bool → Bool → Prog (BodyEff F) PUnit → Prog (BodyEff F) PUnit
  | false, d => outP (s := S64x768) a2M (a2R d 2) h_S1x1x64x768 shapeCasts_S1x1x64x768_S64x768 a1M (a1R d 6 3) h_S1x1x1x64x768 shapeCasts_S1x1x1x64x768_S64x768
      (oaR d) h_S64x768 id
  | true, false => outP (s := S64x256) b2M (b2R false 6) h_S1x1x64x256 shapeCasts_S1x1x64x256_S64x256
      b1M (Rect.unit (k0_off11 c (BitVec.ofNat 32 (4294967288 + 0))) S1x1x64x256.size (k0_off11_inb c 0)) h_S1x1x64x256 shapeCasts_S1x1x64x256_S64x256
      (obR false) h_S64x256 id
  | true, true => outP (s := S64x256) b2M (b2R true 6) h_S1x1x64x256 shapeCasts_S1x1x64x256_S64x256
      b1M (Rect.unit (k0_off12 c (BitVec.ofNat 32 (2 + 6))) S1x1x64x256.size (k0_off12_inb c 6)) h_S1x1x64x256 shapeCasts_S1x1x64x256_S64x256
      (obR true) h_S64x256 id

/-- An event's program, and on with `K`. -/
def evP (c : Dev nD) : Ev → Prog (BodyEff F) PUnit → Prog (BodyEff F) PUnit
  | .send k, K => sendP c k K
  | .recv k, K => recvP c k K
  | .add k, K => accP c k K
  | .rows _, K => K
  | .out b d, K => lastP c b d K
  | .sent k, K => sentP c k K

/-- The events' programs, one after the other, and on with `K`. -/
def runEvs (c : Dev nD) : List Ev → Prog (BodyEff F) PUnit → Prog (BodyEff F) PUnit
  | [], K => K
  | e :: es, K => evP c e (runEvs c es K)

theorem runEvs_append (c : Dev nD) (es es' : List Ev) (K : Prog (BodyEff F) PUnit) :
    runEvs c (es ++ es') K = runEvs c es (runEvs c es' K) := by
  induction es with
  | nil => rfl
  | cons e es ih => simp only [List.cons_append, runEvs, ih]

/-! ## The order of the events -/

/-- Something in both directions. -/
abbrev both (f : Bool → List Ev) : List Ev := f false ++ f true

/-- The first half's ring: a block arrives, is added to, and goes on. -/
abbrev goA1 (h h' : Fin 7) (g : Fin 4) (d : Bool) : List Ev := [.recv (.a1 d h g), .add (.a1 d h g), .send (.a1 d h' g)]
abbrev roundA1 (h h' : Fin 7) : List Ev := both (goA1 h h' 0) ++ both (goA1 h h' 1) ++ both (goA1 h h' 2) ++ both (goA1 h h' 3)
/-- The last step of the ring, and of the one along `z` that follows it. -/
abbrev goA2 (h h' : Fin 3) (d : Bool) : List Ev := [.recv (.a2 d h), .add (.a2 d h), .send (.a2 d h')]
abbrev endA1 (g : Fin 4) (more : Bool → List Ev) (d : Bool) : List Ev := [.recv (.a1 d 6 g), .add (.a1 d 6 g)] ++ more d
/-- The second half, along `z` and then round the ring. -/
abbrev goB1 (h h' : Fin 3) (s : Fin 4) (d : Bool) : List Ev := [.recv (.b1 d h s), .add (.b1 d h s), .send (.b1 d h' s)]
abbrev roundB1 (h h' : Fin 3) : List Ev := both (goB1 h h' 0) ++ both (goB1 h h' 1) ++ both (goB1 h h' 2) ++ both (goB1 h h' 3)
abbrev endB1 (s : Fin 4) (d : Bool) : List Ev := [.recv (.b1 d 2 s), .add (.b1 d 2 s)]
abbrev goB2 (h h' : Fin 7) : List Ev := both fun d => [.recv (.b2 d h), .add (.b2 d h), .send (.b2 d h')]

/-- The first sends of both halves. -/
abbrev evsStart : List Ev :=
  (both fun d => [.send (.a1 d 0 0)]) ++ (both fun d => [.send (.a1 d 0 1)]) ++ (both fun d => [.send (.a1 d 0 2)]) ++ (both fun d => [.send (.a1 d 0 3)])
  ++ (both fun d => [.send (.b1 d 0 0)]) ++ (both fun d => [.send (.b1 d 0 1)]) ++ (both fun d => [.send (.b1 d 0 2)]) ++ (both fun d => [.send (.b1 d 0 3)])

/-- The departures, in the order the copies were started. -/
abbrev sentA1 (h : Fin 7) : List Ev := (both fun d => [.sent (.a1 d h 0)]) ++ (both fun d => [.sent (.a1 d h 1)]) ++ (both fun d => [.sent (.a1 d h 2)]) ++ (both fun d => [.sent (.a1 d h 3)])
abbrev sentB1 (h : Fin 3) : List Ev := (both fun d => [.sent (.b1 d h 0)]) ++ (both fun d => [.sent (.b1 d h 1)]) ++ (both fun d => [.sent (.b1 d h 2)]) ++ (both fun d => [.sent (.b1 d h 3)])
abbrev sentA2 (h : Fin 3) : List Ev := both fun d => [.sent (.a2 d h)]
abbrev sentB2 (h : Fin 7) : List Ev := both fun d => [.sent (.b2 d h)]

/-- The events, in the four stretches the body is printed in. -/
def evs₁ : List Ev :=
  List.flatten [evsStart, roundA1 0 1, roundA1 1 2, both (goA1 2 3 0), both (goA1 2 3 1), both (goA1 2 3 2), goA1 2 3 3 false]
def evs₂ : List Ev :=
  List.flatten [goA1 2 3 3 true, roundB1 0 1, roundA1 3 4, roundA1 4 5, roundB1 1 2, both (goA1 5 6 0), goA1 5 6 1 false, [.recv (.a1 true 5 1)]]
def evs₃ : List Ev :=
  List.flatten [[.add (.a1 true 5 1), .send (.a1 true 6 1)], both (goA1 5 6 2), both (goA1 5 6 3),
    both (endB1 0), both (endB1 1), both (endB1 2), both (endB1 3), [.rows false, .rows true], both fun d => [.send (.b2 d 0)],
    both (endA1 0 fun d => [.send (.a2 d 0)]), goB2 0 1,
    both (endA1 1 (goA2 0 1)), goB2 1 2,
    both (endA1 2 (goA2 1 2)), goB2 2 3,
    both (endA1 3 fun d => [.recv (.a2 d 2), .out false d]),
    goB2 3 4, goB2 4 5, goB2 5 6, both fun d => [.recv (.b2 d 6), .out true d]]
def evs₄ : List Ev :=
  List.flatten [sentA1 0, sentB1 0, sentA1 1, sentA1 2, sentA1 3, sentB1 1, sentA1 4, sentA1 5, sentB1 2, sentA1 6,
    sentB2 0, sentA2 0, sentB2 1, sentA2 1, sentB2 2, sentA2 2, sentB2 3, sentB2 4, sentB2 5, [.sent (.b2 false 6)]]
/-- All of them, with the last departure. -/
def evs : List Ev := evs₁ ++ (evs₂ ++ (evs₃ ++ (evs₄ ++ [.sent (.b2 true 6)])))

end Cert.SumProof

end
-- ==== Proof.Values.lean ====
/-
# The pieces of the buffers and their contents

While the kernel runs, what a device holds is cut in pieces: the blocks of its partial product that it sends and adds,
the landing places of its copies (as landed, or with its own rows added), the 64-row pieces of the rows landed by the
second half's first reduce-scatter, and the four quarters of the result. This file names the pieces and says what each
holds, given the 32 partial products `P`.
-/
module

public import proofs.«01_k».proof.Proof.Mesh
public import proofs.«01_k».proof.Proof.Events

@[expose] public section

noncomputable section

namespace Cert.SumProof

open Cert.KernelIdeal Cert.KernelIdeal.Gen
open Idealize.ShloMosaic Idealize.ShloMosaic.TcCoe Idealize.SL.Sem

/-- A piece a device holds. `raw k`: the landing place of `k` as landed; `acc k`: the same with the device's rows added;
    `half d t`: the 64 rows, `t + 1` positions further, of the rows landed last along `z` in the second half; `pa d g t`:
    the block of the partial product `1 + g` planes and `t + 1` positions further, on the first half's columns; `pb d t s`:
    block `s` of the plane `t + 1` further, on the second half's; `res b d`: a quarter of the result, not yet stored;
    `done b d`: the quarter, stored. -/
inductive Fact
  | raw (k : Copy)
  | acc (k : Copy)
  | half (d : Bool) (t : Fin 8)
  | pa (d : Bool) (g : Fin 4) (t : Fin 8)
  | pb (d : Bool) (t : Fin 4) (s : Fin 4)
  | res (b d : Bool)
  | done (b d : Bool)
  deriving DecidableEq

/-! ## The places -/

theorem inb_pa (c : Dev nD) (d : Bool) (g t : ℕ) :
    ∀ a, (![64 * blk c d g t, 768 * d.toNat] : Fin 2 → Nat) a + S64x768.size a ≤ S2048x2048.size a := by
  have h := blk_lt c d g t
  have hd : d.toNat ≤ 1 := Bool.toNat_le d
  refine Fin.forall_fin_two.mpr ⟨?_, ?_⟩
  · show 64 * blk c d g t + 64 ≤ 2048; omega
  · show 768 * d.toNat + 768 ≤ 2048; omega
theorem inb_pb (c : Dev nD) (d : Bool) (t : ℕ) (s : Fin 4) :
    ∀ a, (![512 * zrel c d t + 128 * s.val, 1536 + 256 * d.toNat] : Fin 2 → Nat) a + S128x256.size a ≤ S2048x2048.size a := by
  have h := zrel_lt c d t
  have hs := s.isLt
  have hd : d.toNat ≤ 1 := Bool.toNat_le d
  refine Fin.forall_fin_two.mpr ⟨?_, ?_⟩
  · show 512 * zrel c d t + 128 * s.val + 128 ≤ 2048; omega
  · show 1536 + 256 * d.toNat + 256 ≤ 2048; omega
theorem inb_half (c : Dev nD) (d : Bool) (t : ℕ) :
    ∀ a, (![d.toNat, 2, 64 * rrel c d t, 0] : Fin 4 → Nat) a + S1x1x64x256.size a ≤ S2x3x512x256.size a := by
  have h := rrel_lt c d t
  have hd : d.toNat ≤ 1 := Bool.toNat_le d
  intro a
  match a with
  | 0 => show d.toNat + 1 ≤ 2; omega
  | 1 => show 2 + 1 ≤ 3; omega
  | 2 => show 64 * rrel c d t + 64 ≤ 512; omega
  | 3 => show 0 + 256 ≤ 256; omega

abbrev paR (c : Dev nD) (d : Bool) (g t : ℕ) : Rect S2048x2048 := Rect.unit ![64 * blk c d g t, 768 * d.toNat] S64x768.size (inb_pa c d g t)
abbrev pbR (c : Dev nD) (d : Bool) (t : ℕ) (s : Fin 4) : Rect S2048x2048 := Rect.unit ![512 * zrel c d t + 128 * s.val, 1536 + 256 * d.toNat] S128x256.size (inb_pb c d t s)
abbrev halfR (c : Dev nD) (d : Bool) (t : ℕ) : Rect S2x3x512x256 := Rect.unit ![d.toNat, 2, 64 * rrel c d t, 0] S1x1x64x256.size (inb_half c d t)

abbrev paM (c : Dev nD) (d : Bool) (g t : ℕ) : Memref sig .tc .vmem S64x768 .f32 := pM.slice (paR c d g t) (fun _ => rfl)
abbrev pbM (c : Dev nD) (d : Bool) (t : ℕ) (s : Fin 4) : Memref sig .tc .vmem S128x256 .f32 := pM.slice (pbR c d t s) (fun _ => rfl)
abbrev halfM (c : Dev nD) (d : Bool) (t : ℕ) : Memref sig .tc .vmem S64x256 .f32 :=
  (b1M.slice (halfR c d t) (fun _ => rfl)).squeeze S64x256 squeezes_S1x1x64x256_S64x256
abbrev oaM (d : Bool) : Memref sig .tc .vmem S64x768 .f32 := oM.slice (oaR d) (fun _ => rfl)
abbrev obM (d : Bool) : Memref sig .tc .vmem S64x256 .f32 := oM.slice (obR d) (fun _ => rfl)

/-! ## The contents -/

variable {F : FTy → Type} [FloatOps F] (P : Dev nD → FVec F S2048x2048 .f32)

/-- Blocks of a device's partial product. -/
def paV (c : Dev nD) (d : Bool) (g t : ℕ) : FVec F S64x768 .f32 := (paM c d g t).view.read (Elt F) (P c)
def pbV (c : Dev nD) (d : Bool) (t : ℕ) (s : Fin 4) : FVec F S128x256 .f32 := (pbM c d t s).view.read (Elt F) (P c)

/-- The running sums of the first half round the ring after step `h`: what came, and the device's own block. -/
def a1V (d : Bool) (g : Fin 4) : ℕ → Dev nD → FVec F S64x768 .f32
  | 0, c => addf (paV P (nb c (ringSide d).opp) d g 1) (paV P c d g 2)
  | h + 1, c => addf (a1V d g h (nb c (ringSide d).opp)) (paV P c d g (h + 3))

/-- The running sums of the first half along `z`: the ring's four sums are added as they come round. -/
def a2V (d : Bool) : ℕ → Dev nD → FVec F S64x768 .f32
  | 0, c => addf (a1V P d 0 6 (nb c (zSide d).opp)) (a1V P d 1 6 c)
  | h + 1, c => addf (a2V d h (nb c (zSide d).opp)) (a1V P d (Fin.ofNat 4 (h + 2)) 6 c)

/-- The running sums of the second half along `z`. -/
def b1V (d : Bool) (s : Fin 4) : ℕ → Dev nD → FVec F S128x256 .f32
  | 0, c => addf (pbV P (nb c (zSide d).opp) d 1 s) (pbV P c d 2 s)
  | h + 1, c => addf (b1V d s h (nb c (zSide d).opp)) (pbV P c d (h + 3) s)

/-- The rows landed by the second half along `z`, at the last step: 512 rows, four blocks of 128. -/
def b1C (c : Dev nD) (d : Bool) : S2x3x512x256.Idx → F .f32 := fun i =>
  b1V P d ⟨(i 2).val / 128, by have h : (i 2).val < 512 := (i 2).isLt; omega⟩ 2 c
    (Shape.pair (d := ![128, 256]) ⟨(i 2).val % 128, Nat.mod_lt _ (by decide)⟩ ⟨(i 3).val, (i 3).isLt⟩)

/-- The 64 rows of it `t` positions further. -/
def halfV (c : Dev nD) (d : Bool) (t : ℕ) : FVec F S64x256 .f32 := (halfM c d t).view.read (Elt F) (b1C P c d)

/-- The running sums of the second half round the ring. -/
def b2V (d : Bool) : ℕ → Dev nD → FVec F S64x256 .f32
  | 0, c => addf (halfV P (nb c (ringSide d).opp) d 1) (halfV P c d 2)
  | h + 1, c => addf (b2V d h (nb c (ringSide d).opp)) (halfV P c d (h + 3))

/-- What the copy `k` made by `c` carries. -/
def srcV (c : Dev nD) : (k : Copy) → FVec F (shp k) .f32
  | .a1 d ⟨0, _⟩ g => paV P c d g 1
  | .a1 d ⟨h + 1, _⟩ g => a1V P d g h c
  | .a2 d ⟨0, _⟩ => a1V P d 0 6 c
  | .a2 d ⟨h + 1, _⟩ => a2V P d h c
  | .b1 d ⟨0, _⟩ s => pbV P c d 1 s
  | .b1 d ⟨h + 1, _⟩ s => b1V P d s h c
  | .b2 d ⟨0, _⟩ => halfV P c d 1
  | .b2 d ⟨h + 1, _⟩ => b2V P d h c

/-- What has landed by the copy `k` to `c`, -/
def rawV (c : Dev nD) (k : Copy) : FVec F (shp k) .f32 := srcV P (frm c k) k

/-- what the device adds to it, -/
def opV (c : Dev nD) : (k : Copy) → FVec F (shp k) .f32
  | .a1 d h g => paV P c d g (h + 2)
  | .a2 d h => a1V P d h.succ 6 c
  | .b1 d h s => pbV P c d (h + 2) s
  | .b2 d h => halfV P c d (h + 2)

/-- and the sum. -/
def accV (c : Dev nD) : (k : Copy) → FVec F (shp k) .f32
  | .a1 d h g => a1V P d g h c
  | .a2 d h => a2V P d h c
  | .b1 d h s => b1V P d s h c
  | .b2 d h => b2V P d h c

theorem accV_eq (c : Dev nD) (k : Copy) : addf (rawV P c k) (opV P c k) = accV P c k := by
  cases k with
  | a1 d h g => obtain ⟨h, hh⟩ := h; cases h <;> rfl
  | a2 d h =>
    obtain ⟨h, hh⟩ := h
    cases h with
    | zero => rfl
    | succ h => have : h = 0 ∨ h = 1 := by omega
                rcases this with rfl | rfl <;> rfl
  | b1 d h s => obtain ⟨h, hh⟩ := h; cases h <;> rfl
  | b2 d h => obtain ⟨h, hh⟩ := h; cases h <;> rfl

/-- The quarters of the result. -/
def oaV (c : Dev nD) (d : Bool) : FVec F S64x768 .f32 := closing (a2V P d 2 c)
def obV (c : Dev nD) (d : Bool) : FVec F S64x256 .f32 := closing (b2V P d 6 c)

/-! ## Where a copy starts, and what is added, as pieces -/

/-- The piece the copy `k` is made from, -/
def srcFact : Copy → Fact
  | .a1 d ⟨0, _⟩ g => .pa d g 0
  | .a1 d ⟨h + 1, hh⟩ g => .acc (.a1 d ⟨h, Nat.lt_of_succ_lt hh⟩ g)
  | .a2 d ⟨0, _⟩ => .acc (.a1 d 6 0)
  | .a2 d ⟨h + 1, hh⟩ => .acc (.a2 d ⟨h, Nat.lt_of_succ_lt hh⟩)
  | .b1 d ⟨0, _⟩ s => .pb d 0 s
  | .b1 d ⟨h + 1, hh⟩ s => .acc (.b1 d ⟨h, Nat.lt_of_succ_lt hh⟩ s)
  | .b2 d ⟨0, _⟩ => .half d 0
  | .b2 d ⟨h + 1, hh⟩ => .acc (.b2 d ⟨h, Nat.lt_of_succ_lt hh⟩)

/-- and the piece added to what it brings. -/
def opFact : Copy → Fact
  | .a1 d h g => .pa d g h.succ
  | .a2 d h => .acc (.a1 d 6 h.succ)
  | .b1 d h s => .pb d h.succ s
  | .b2 d h => .half d h.succ

end Cert.SumProof

end
-- ==== Proof.BodyEq.lean ====
/-
# The printed body is the list of events

The body is printed in parts; each part, on the kernel's buffers, is its stretch of the events.
-/
module

public import proofs.«01_k».proof.Proof.Events

@[expose] public section

noncomputable section

namespace Cert.SumProof

open Cert.KernelIdeal Cert.KernelIdeal.Gen
open Idealize.ShloMosaic Idealize.ShloMosaic.TcCoe Idealize.SL.Sem

variable {F : FTy → Type} [FloatOps F]

/-- The runtime's barrier semaphore. -/
abbrev barS : Sem sig := (SemArray.scalar (sig.barrier 0 rfl) : Sems sig S_).sem

/-- The product of the device's blocks, stored in the partial buffer. -/
def productP : Prog (BodyEff F) PUnit := do
  let x : Vec F S2048x64 .f32 ← Prog.lift (.load xM (Rect.unit (s := S2048x64) ![0, 0] S2048x64.size inb_S2048x64_S2048x64_0_0).toLoadRect (View.loadsAt_vmem h_S2048x64))
  let w : Vec F S64x2048 .f32 ← Prog.lift (.load wM (Rect.unit (s := S64x2048) ![0, 0] S64x2048.size inb_S64x2048_S64x2048_0_0).toLoadRect (View.loadsAt_vmem h_S64x2048))
  let _ ← Prog.lift (.load (Val := Elt F) pM (Rect.unit (s := S2048x2048) ![0, 0] S2048x2048.size inb_S2048x2048_S2048x2048_0_0).toLoadRect (View.loadsAt_vmem h_S2048x2048))
  Prog.lift (.store pM (Rect.unit (s := S2048x2048) ![0, 0] S2048x2048.size inb_S2048x2048_S2048x2048_0_0) (k0_pay1 x w) Finset.univ (View.stores_vmem_bits_univ h_S2048x2048 rfl) (.inl rfl))

/-- The handshake: each neighbour is signalled, and four signals are waited for. -/
def handshakeP (c : Dev nD) : Prog (BodyEff F) PUnit := do
  semSignalWord (nb c .succ) barS 1#32
  semSignalWord (nb c .pred) barS 1#32
  semSignalWord (nb c .up) barS 1#32
  semSignalWord (nb c .down) barS 1#32
  semWaitWord barS 4#32

set_option maxRecDepth 1000000 in
theorem part217_eq : ∃ w₁ w₂ w₃ w₄ w₅ w₆ : Dev nD → BitVec 32, ∀ K, (k0_part217 (F := F) xM (Memref.isWhole_whole _) wM (Memref.isWhole_whole _) oM (Memref.isWhole_whole _) pM (Memref.isWhole_whole _) a1M (Memref.isWhole_whole _) a2M (Memref.isWhole_whole _) b1M (Memref.isWhole_whole _) b2M (Memref.isWhole_whole _) cc0_scratch5 cc0_scratch6 cc0_scratch7 cc0_scratch8 cc0_scratch9 cc0_scratch10 cc0_scratch11 cc0_scratch12 >>= K)
    = (Prog.lift .deviceId >>= fun c => productP >>= fun _ => handshakeP c >>= fun _ => runEvs c evs₁ (K ⟨c, w₁ c, w₂ c, w₃ c, w₄ c, w₅ c, w₆ c⟩)) :=
  ⟨_, _, _, _, _, _, fun _ => rfl⟩

set_option maxRecDepth 1000000 in
theorem part218_eq (c : Dev nD) (u₁ u₂ u₃ u₄ u₅ u₆ : BitVec 32) : ∃ w, ∀ K, (k0_part218 (F := F) xM (Memref.isWhole_whole _) wM (Memref.isWhole_whole _) oM (Memref.isWhole_whole _) pM (Memref.isWhole_whole _) a1M (Memref.isWhole_whole _) a2M (Memref.isWhole_whole _) b1M (Memref.isWhole_whole _) b2M (Memref.isWhole_whole _) cc0_scratch5 cc0_scratch6 cc0_scratch7 cc0_scratch8 cc0_scratch9 cc0_scratch10 cc0_scratch11 cc0_scratch12 c u₁ u₂ u₃ u₄ u₅ u₆ >>= K)
    = runEvs c evs₂ (K w) :=
  ⟨_, fun _ => rfl⟩

set_option maxRecDepth 1000000 in
theorem part219_eq (c : Dev nD) (u₁ u₂ u₃ u₄ u₅ u₆ u₇ u₈ : BitVec 32) : ∀ K, (k0_part219 (F := F) xM (Memref.isWhole_whole _) wM (Memref.isWhole_whole _) oM (Memref.isWhole_whole _) pM (Memref.isWhole_whole _) a1M (Memref.isWhole_whole _) a2M (Memref.isWhole_whole _) b1M (Memref.isWhole_whole _) b2M (Memref.isWhole_whole _) cc0_scratch5 cc0_scratch6 cc0_scratch7 cc0_scratch8 cc0_scratch9 cc0_scratch10 cc0_scratch11 cc0_scratch12 c u₁ u₂ u₃ u₄ u₅ u₆ u₇ u₈ >>= K)
    = runEvs c evs₃ (K ⟨⟩) :=
  fun _ => rfl

set_option maxRecDepth 1000000 in
theorem part220_eq (c : Dev nD) : ∀ K, (k0_part220 (F := F) xM (Memref.isWhole_whole _) wM (Memref.isWhole_whole _) oM (Memref.isWhole_whole _) pM (Memref.isWhole_whole _) a1M (Memref.isWhole_whole _) a2M (Memref.isWhole_whole _) b1M (Memref.isWhole_whole _) b2M (Memref.isWhole_whole _) cc0_scratch5 cc0_scratch6 cc0_scratch7 cc0_scratch8 cc0_scratch9 cc0_scratch10 cc0_scratch11 cc0_scratch12 c >>= K) = runEvs c evs₄ (K ⟨⟩) :=
  fun _ => rfl

/-- The printed body, on the kernel's buffers: its device is read, the product is stored, the neighbours shake hands, and
    the events run. -/
theorem cc0_body_eq : cc0_body (F := F) xM (Memref.isWhole_whole _) wM (Memref.isWhole_whole _) oM (Memref.isWhole_whole _) pM (Memref.isWhole_whole _) a1M (Memref.isWhole_whole _) a2M (Memref.isWhole_whole _) b1M (Memref.isWhole_whole _) b2M (Memref.isWhole_whole _) cc0_scratch5 cc0_scratch6 cc0_scratch7 cc0_scratch8 cc0_scratch9 cc0_scratch10 cc0_scratch11 cc0_scratch12
    = (Prog.lift .deviceId >>= fun c => productP >>= fun _ => handshakeP c >>= fun _ => runEvs c evs (pure ⟨⟩)) := by
  obtain ⟨w₁, w₂, w₃, w₄, w₅, w₆, h⟩ := part217_eq (F := F)
  unfold cc0_body
  rw [h]
  refine bind_congr fun c => bind_congr fun _ => bind_congr fun _ => ?_
  obtain ⟨w, h⟩ := part218_eq (F := F) c (w₁ c) (w₂ c) (w₃ c) (w₄ c) (w₅ c) (w₆ c)
  rw [evs, runEvs_append, runEvs_append, runEvs_append, runEvs_append]
  refine congrArg _ ?_
  refine (h _).trans (congrArg _ ?_)
  refine (part219_eq c _ _ _ _ _ _ _ _ _).trans (congrArg _ ?_)
  exact (part220_eq c _).trans (congrArg _ rfl)

end Cert.SumProof

end
-- ==== Proof.Protocol.lean ====
/-
# The protocol

The semaphores of a device are the runtime's barrier, and a send and a receive semaphore for each of the hundred copies;
each is used for one round.

* The barrier of `c` is signalled once by each of its four neighbours, and `c` waits for four. The neighbour on side `j`
  hands over its landing places of the copies that go to side `j`: `c` may from then on write them.
* The copy `k` made by `c` credits its send semaphore on `c`, handing back the piece it was made from; and its receive
  semaphore on the neighbour it goes to, handing over the landing place with what was carried.

A device owes its four signals and its hundred copies, in the order of the program. Levels: the barrier 1, a receive
semaphore by the step of its copy, every other semaphore 0; a device waits on a receive semaphore only while everything it
owes is above it.
-/
module

public import proofs.«01_k».proof.Proof.Values
public import proofs.«01_k».proof.Proof.BodyEq
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.SumProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, whose duties are named by sides -/

abbrev UB : Type := URounds (GSem nD τ sig) Side
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A semaphore of a device: the barrier (`none`), or the send (`false`) or receive (`true`) semaphore of a copy. -/
abbrev CI := Option (Bool × Copy)

def csem : CI → SemLoc sig
  | none => .reg barS
  | some (false, k) => .dma (sendS k)
  | some (true, k) => .dma (recvS k)

/-- The copy a number belongs to, and whether it is its send or its receive semaphore. -/
def which (n : ℕ) : Option (Bool × Copy) :=
  match Copy.all.find? (fun k => k.num == n) with
  | some k => some (false, k)
  | none => (Copy.all.find? (fun k => k.num' == n)).map fun k => (true, k)

theorem which_num (k : Copy) : which k.num = some (false, k) := by revert k; decide +kernel
theorem which_num' (k : Copy) : which k.num' = some (true, k) := by revert k; decide +kernel

def ci : SemLoc sig → Option CI
  | .reg s => if s = barS then some none else none
  | .dma s => (which s.val).map some

theorem ci_csem (i : CI) : ci (csem i) = some i := by
  rcases i with _ | ⟨_ | _, k⟩
  · show (if barS = barS then some none else none) = some (none : CI); exact if_pos rfl
  · show (which (sendS k).val).map some = _; rw [sendS_val, which_num]; rfl
  · show (which (recvS k).val).map some = _; rw [recvS_val, which_num']; rfl

theorem csem_inj : Function.Injective csem := fun i i' h => Option.some.inj (by rw [← ci_csem i, ← ci_csem i', h])

abbrev cell (c : Dev nD) (i : CI) : GSem nD τ sig := ((c : Thread nD τ), csem i)
abbrev bar (c : Dev nD) : GSem nD τ sig := cell c none
abbrev snd (c : Dev nD) (k : Copy) : GSem nD τ sig := cell c (some (false, k))
abbrev rcv (c : Dev nD) (k : Copy) : GSem nD τ sig := cell c (some (true, k))

theorem cell_inj {c c' : Dev nD} {i i' : CI} (h : cell c i = cell c' i') : c = c' ∧ i = i' :=
  ⟨congrArg (fun g : GSem nD τ sig => g.1.1) h, csem_inj (congrArg Prod.snd h)⟩

/-- What a copy credits its semaphores. -/
def N (k : Copy) : ℕ := (slotM k).view.dmaCredit
theorem N_pos (k : Copy) : 0 < N k := View.dmaCredit_pos _ (by cases k <;> (simp only [shp]; decide))
theorem N_src (c : Dev nD) (k : Copy) : (srcM c k).view.dmaCredit = N k := by
  cases k with
  | a1 d h g => obtain ⟨_ | h, hh⟩ := h <;> cases d <;> rfl
  | a2 d h => obtain ⟨_ | h, hh⟩ := h <;> cases d <;> rfl
  | b1 d h s => obtain ⟨_ | h, hh⟩ := h <;> cases d <;> rfl
  | b2 d h => obtain ⟨_ | h, hh⟩ := h <;> cases d <;> rfl

/-! ## What is handed over -/

variable (P : Dev nD → FVec F S2048x2048 .f32)

/-- A landing place of `c`, whatever it holds. -/
def slotAny (c : Dev nD) (k : Copy) : sProp 𝕄 := iprop(∃ X, ownsTc (τ := τ) (Val := Elt F) c (slotM k) fullShare X)
/-- The copies that go to a side. -/
def toSide (j : Side) : Finset Copy := Finset.univ.filter fun k => k.side = j
/-- What the neighbour on side `j` hands `c`. -/
def barPay (c : Dev nD) (j : Side) : sProp 𝕄 := bigSep (toSide j) fun k => slotAny (F := F) (nb c j) k
/-- What the copy `k` hands back, and over. -/
def sndPay (c : Dev nD) (k : Copy) : sProp 𝕄 := ownsTc (τ := τ) (Val := Elt F) c (srcM c k) fullShare (srcV P c k)
def rcvPay (c : Dev nD) (k : Copy) : sProp 𝕄 := ownsTc (τ := τ) (Val := Elt F) c (slotM k) fullShare (rawV P c k)

def pay (c : Dev nD) : CI → Side → sProp 𝕄
  | none, j => barPay c j
  | some (false, k), _ => sndPay P c k
  | some (true, k), _ => rcvPay P c k

instance slotAny_storable (c : Dev nD) (k : Copy) : BI.Storable (upEmb : UEmb _ 𝕄) (slotAny (F := F) c k) := by unfold slotAny; infer_instance
instance pay_storable (c : Dev nD) (i : CI) (j : Side) : BI.Storable (upEmb : UEmb _ 𝕄) (pay P c i j) := by
  rcases i with _ | ⟨_ | _, k⟩
  · show BI.Storable upEmb (barPay c j); unfold barPay; infer_instance
  · show BI.Storable upEmb (sndPay P c k); unfold sndPay; infer_instance
  · show BI.Storable upEmb (rcvPay P c k); unfold rcvPay; infer_instance

/-- One round: a barrier has a duty for each side, a copy's semaphore one. -/
def rd : Rounds.Schedule (GSem nD τ sig) Side 𝕄 where
  duties g r := if r = 0 ∧ g.1.2 = .tc then
    (match ci g.2 with | none => ∅ | some none => Finset.univ | some (some _) => {.succ}) else ∅
  unitless _ := False
  amount g _ _ := match ci g.2 with | some (some (_, k)) => N k | _ => 1
  payload g _ d := match ci g.2 with | some i => pay P g.1.1 i d | none => iprop(emp)
  amount_pos g _ _ _ := by
    split
    · exact N_pos _
    · exact Nat.one_pos

instance rd_storable (g : GSem nD τ sig) (r : ℕ) (d : Side) : BI.Storable (upEmb : UEmb _ 𝕄) ((rd P).payload g r d) := by
  show BI.Storable upEmb (match ci g.2 with | some i => pay P g.1.1 i d | none => iprop(emp))
  split <;> infer_instance

section Sched
variable (c : Dev nD)

theorem duties_bar : (rd P).duties (bar c) 0 = Finset.univ := by
  dsimp only [rd]; rw [if_pos ⟨rfl, rfl⟩, ci_csem]
theorem duties_copy (b : Bool) (k : Copy) : (rd P).duties (cell c (some (b, k))) 0 = {.succ} := by
  dsimp only [rd]; rw [if_pos ⟨rfl, rfl⟩, ci_csem]
theorem duties_later (g : GSem nD τ sig) : ∀ r, 1 ≤ r → (rd P).duties g r = ∅ := fun r hr => by
  dsimp only [rd]; exact if_neg fun h => by omega
theorem amount_bar (j : Side) : (rd P).amount (bar c) 0 j = 1 := by dsimp only [rd]; rw [ci_csem]
theorem amount_copy (b : Bool) (k : Copy) (j : Side) : (rd P).amount (cell c (some (b, k))) 0 j = N k := by dsimp only [rd]; rw [ci_csem]
theorem payload_cell (i : CI) (j : Side) : (rd P).payload (cell c i) 0 j = pay P c i j := by dsimp only [rd]; rw [ci_csem]

theorem expect_bar : (rd P).expect (bar c) 0 = 4 := by
  unfold Schedule.expect Schedule.amountOf
  rw [duties_bar, Finset.sum_congr rfl fun d _ => amount_bar P c d, Finset.sum_const]; rfl
theorem expect_copy (b : Bool) (k : Copy) : (rd P).expect (cell c (some (b, k))) 0 = N k := by
  unfold Schedule.expect Schedule.amountOf; rw [duties_copy, Finset.sum_singleton, amount_copy]

theorem rest_bar : bigSep ((rd P).duties (bar c) 0 \ ∅) (fun d => (rd P).payload (bar c) 0 d) = bigSep Finset.univ fun j => barPay (F := F) c j := by
  rw [Finset.sdiff_empty, duties_bar]; exact bigSep_congr fun j _ => payload_cell P c none j
theorem rest_copy (b : Bool) (k : Copy) : bigSep ((rd P).duties (cell c (some (b, k))) 0 \ ∅) (fun d => (rd P).payload (cell c (some (b, k))) 0 d) = pay P c (some (b, k)) .succ := by
  rw [Finset.sdiff_empty, duties_copy, bigSep_singleton, payload_cell]

end Sched

/-! ## What is owed, and the levels -/

/-- The level of a copy's receive semaphore. -/
def rlev : Copy → ℕ
  | .a1 _ h _ => 2 * h.val + 2
  | .b1 _ h _ => match h with | 0 => 7 | 1 => 11 | 2 => 13
  | .b2 _ h => 2 * h.val + 16
  | .a2 _ h => 2 * h.val + 17

/-- A debt: a signal to a side, or a copy. -/
abbrev Debt := Side ⊕ Copy

/-- The cell a debt of `c` goes to, and its amount. -/
def dest (c : Dev nD) : Debt → GSem nD τ sig
  | .inl j => bar (nb c j)
  | .inr k => rcv (tgt c k) k
def amt : Debt → ℕ
  | .inl _ => 1
  | .inr k => N k
/-- Everything in a list of debts. -/
def owed (c : Dev nD) : List Debt → CellTallies nD τ sig Unit
  | [] => 0
  | i :: l => owed c l + tallyAt (dest c i) () (amt i)

theorem owed_pos {c : Dev nD} {l : List Debt} {g : GSem nD τ sig} {u : Unit} (h : 0 < owed c l g u) : ∃ i ∈ l, g = dest c i := by
  induction l with
  | nil => exact absurd h (Nat.lt_irrefl 0)
  | cons i l ih =>
    unfold owed at h
    rw [Pi.add_apply, Finsupp.add_apply, tallyAt_apply] at h
    by_cases hg : g = dest c i ∧ u = ()
    · exact ⟨i, List.mem_cons_self, hg.1⟩
    · rw [if_neg hg, Nat.add_zero] at h
      obtain ⟨i', hi', e⟩ := ih h
      exact ⟨i', List.mem_cons_of_mem _ hi', e⟩

def L (g : GSem nD τ sig) : Finset Unit := if g.1.2 = .tc then {()} else ∅
def lv (g : GSem nD τ sig) (_ : Unit) : ℕ := match ci g.2 with
  | some none => 1
  | some (some (true, k)) => rlev k
  | _ => 0

theorem L_of_ne (g : GSem nD τ sig) (h : g.1.2 ≠ .tc) : L g = ∅ := if_neg h
theorem L_tc (c : Dev nD) (sm : SemLoc sig) : L ((c : Thread nD τ), sm) = {()} := if_pos rfl

/-- A debt's level. -/
def dlev : Debt → ℕ
  | .inl _ => 1
  | .inr k => rlev k
theorem lv_dest (c : Dev nD) (i : Debt) : lv (dest c i) () = dlev i := by
  cases i <;> (simp only [dest, lv, ci_csem]; rfl)

/-- A wait below everything owed is allowed. -/
theorem mayWait (c : Dev nD) (sm : SemLoc sig) (l : List Debt) (h : ∀ i ∈ l, lv ((c : Thread nD τ), sm) () < dlev i) :
    (levAts L lv : sProp 𝕄) ⊢ MayWait (c : Thread nD τ) sm () (owed c l) :=
  MayOwe.of_cut (L := L) (lev := lv) (lv ((c : Thread nD τ), sm) ())
    (fun p hp => by rw [Finset.mem_singleton.mp hp, L_tc]; exact Finset.mem_singleton_self _)
    (fun g u hg => by
      obtain ⟨i, _, rfl⟩ := owed_pos hg
      cases i <;> exact Finset.mem_singleton_self _)
    (fun p hp => by rw [Finset.mem_singleton.mp hp])
    (fun g u hg => by
      obtain ⟨i, hi, rfl⟩ := owed_pos hg
      exact (h i hi).trans_eq (lv_dest c i).symm)

end Cert.SumProof

end
-- ==== Proof.Pieces.lean ====
/-
# Owning the pieces

What it is to own a piece with its contents, and three facts about the places: the place a copy is made from and the
place of what is added to it, as the body writes them, are the pieces `srcFact` and `opFact`; and the four blocks of rows
landed last along `z` in the second half are, cut anew, the eight pieces the ring works on.
-/
module

public import proofs.«01_k».proof.Proof.Protocol

@[expose] public section

noncomputable section

namespace Cert.SumProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A place of `c`, owned with its contents. -/
abbrev own (c : Dev nD) {s : Shape} (m : Memref sig .tc .vmem s .f32) (X : FVec F s .f32) : sProp 𝕄 :=
  ownsTc (τ := τ) (Val := Elt F) c m fullShare X

variable (P : Dev nD → FVec F S2048x2048 .f32)

def factOwn (c : Dev nD) : Fact → sProp 𝕄
  | .raw k => own c (slotM k) (rawV P c k)
  | .acc k => own c (slotM k) (accV P c k)
  | .half d t => own c (halfM c d (t.val + 1)) (halfV P c d (t.val + 1))
  | .pa d g t => own c (paM c d g (t.val + 1)) (paV P c d g (t.val + 1))
  | .pb d t s => own c (pbM c d (t.val + 1) s) (pbV P c d (t.val + 1) s)
  | .res false d => iprop(∃ X, own c (oaM d) X)
  | .res true d => iprop(∃ X, own c (obM d) X)
  | .done false d => own c (oaM d) (oaV P c d)
  | .done true d => own c (obM d) (obV P c d)

/-- A place held at known contents is its points-to. -/
theorem own_read (c : Dev nD) {s : Shape} (m : Memref sig .tc .vmem s .f32) (g : m.view.ty.Contents (Elt F)) :
    (own c m (m.view.read (Elt F) g) : sProp 𝕄) = (m.view.loc (c : Thread nD τ) ↦[m.view.set]{fullShare} g) := by
  refine BI.equiv_iff.mp ⟨?_, owns_intro (c : Thread nD τ) m fullShare g⟩
  show owns (c : Thread nD τ) m fullShare (m.view.read (Elt F) g) ⊢ _
  unfold owns
  iintro ⟨%f, %hf, H⟩
  have e : (m.view.loc (c : Thread nD τ) ↦[m.view.set]{fullShare} f : sProp 𝕄) = (m.view.loc (c : Thread nD τ) ↦[m.view.set]{fullShare} g) :=
    pointsTo_congr fun i hi => by
      obtain ⟨x, -, rfl⟩ := Finset.mem_map.mp hi
      exact (cast_inj _).mp (congrFun hf x)
  rw [← e]; iexact H

/-- and a piece of it, under another shape of as many elements, the points-to of the piece. -/
theorem own_squeeze (c : Dev nD) {s s' : Shape} (M : Memref sig .tc .vmem s .f32) (r : Rect s) (hr : ∀ a, r.stride a = 1) (h : r.shape.Squeezes s')
    (g : M.view.ty.Contents (Elt F)) :
    (own c ((M.slice r hr).squeeze s' h) (((M.slice r hr).squeeze s' h).view.read (Elt F) g) : sProp 𝕄)
      = (M.view.loc (c : Thread nD τ) ↦[(M.view.slice r).set]{fullShare} g) :=
  (own_read c ((M.slice r hr).squeeze s' h) g).trans
    (congrArg (fun S => (M.view.loc (c : Thread nD τ) ↦[S]{fullShare} g : sProp 𝕄)) (View.set_reshape (M.view.slice r) _))

/-! ## The body's places -/

theorem slice_off {s : Shape} (M : Memref sig .tc .vmem s .f32) {off off' : Fin s.rank → ℕ} (h : off = off') (size : Fin s.rank → ℕ)
    (inb : ∀ a, off a + size a ≤ s.size a) (inb' : ∀ a, off' a + size a ≤ s.size a) :
    M.slice (Rect.unit off size inb) (fun _ => rfl) = M.slice (Rect.unit off' size inb') (fun _ => rfl) := by
  subst h; rfl

/-- The place of what is added to the copy `k`, as the body writes it. -/
def opM (c : Dev nD) : (k : Copy) → Memref sig .tc .vmem (shp k) .f32
  | .a1 false h g => pM.slice (Rect.unit (k0_off5 c (BitVec.ofNat 32 g.val) (BitVec.ofNat 32 (4294967288 + (Fin.rev h).val))) S64x768.size (k0_off5_inb c g (Fin.rev h))) (fun _ => rfl)
  | .a1 true h g => pM.slice (Rect.unit (k0_off6 c (BitVec.ofNat 32 g.val) (BitVec.ofNat 32 (2 + h.val))) S64x768.size (k0_off6_inb c g h)) (fun _ => rfl)
  | .a2 d h => slotM (.a1 d 6 h.succ)
  | .b1 false h s => pM.slice (Rect.unit (k0_off7 c (BitVec.ofNat 32 (4294967292 + (Fin.rev h).val)) (BitVec.ofNat 32 (128 * s.val))) S128x256.size (k0_off7_inb c (Fin.rev h) s)) (fun _ => rfl)
  | .b1 true h s => pM.slice (Rect.unit (k0_off8 c (BitVec.ofNat 32 (2 + h.val)) (BitVec.ofNat 32 (128 * s.val))) S128x256.size (k0_off8_inb c h s)) (fun _ => rfl)
  | .b2 false h => (b1M.slice (Rect.unit (k0_off11 c (BitVec.ofNat 32 (4294967288 + (Fin.rev h).val))) S1x1x64x256.size (k0_off11_inb c (Fin.rev h))) (fun _ => rfl)).squeeze S64x256 squeezes_S1x1x64x256_S64x256
  | .b2 true h => (b1M.slice (Rect.unit (k0_off12 c (BitVec.ofNat 32 (2 + h.val))) S1x1x64x256.size (k0_off12_inb c h)) (fun _ => rfl)).squeeze S64x256 squeezes_S1x1x64x256_S64x256

theorem src_eq (c : Dev nD) (k : Copy) : factOwn P c (srcFact k) = sndPay P c k := by
  cases k with
  | a1 d h g =>
    obtain ⟨_ | h, hh⟩ := h
    · have e : srcM c (.a1 d ⟨0, hh⟩ g) = paM c d g 1 := by
        cases d
        · exact slice_off pM (off1_eq c g) _ _ _
        · exact slice_off pM (off2_eq c g) _ _ _
      show _ = own c (srcM c (.a1 d ⟨0, hh⟩ g)) (paV P c d g 1)
      rw [e]; rfl
    · cases d <;> rfl
  | a2 d h => obtain ⟨_ | h, hh⟩ := h <;> cases d <;> rfl
  | b1 d h s =>
    obtain ⟨_ | h, hh⟩ := h
    · have e : srcM c (.b1 d ⟨0, hh⟩ s) = pbM c d 1 s := by
        cases d
        · exact slice_off pM (off3_eq c s) _ _ _
        · exact slice_off pM (off4_eq c s) _ _ _
      show _ = own c (srcM c (.b1 d ⟨0, hh⟩ s)) (pbV P c d 1 s)
      rw [e]; rfl
    · cases d <;> rfl
  | b2 d h =>
    obtain ⟨_ | h, hh⟩ := h
    · have e : srcM c (.b2 d ⟨0, hh⟩) = halfM c d 1 := by
        cases d
        · exact congrArg (fun m : Memref sig .tc .vmem S1x1x64x256 .f32 => m.squeeze S64x256 squeezes_S1x1x64x256_S64x256) (slice_off b1M (off9_eq c) _ _ _)
        · exact congrArg (fun m : Memref sig .tc .vmem S1x1x64x256 .f32 => m.squeeze S64x256 squeezes_S1x1x64x256_S64x256) (slice_off b1M (off10_eq c) _ _ _)
      show _ = own c (srcM c (.b2 d ⟨0, hh⟩)) (halfV P c d 1)
      rw [e]; rfl
    · cases d <;> rfl

theorem op_eq (c : Dev nD) (k : Copy) : factOwn P c (opFact k) = own c (opM c k) (opV P c k) := by
  cases k with
  | a1 d h g =>
    have e : opM c (.a1 d h g) = paM c d g (h + 2) := by
      cases d
      · exact slice_off pM (off5_eq c g h) _ _ _
      · exact slice_off pM (off6_eq c g h) _ _ _
    rw [e]; rfl
  | a2 d h => rfl
  | b1 d h s =>
    have e : opM c (.b1 d h s) = pbM c d (h + 2) s := by
      cases d
      · exact slice_off pM (off7_eq c h s) _ _ _
      · exact slice_off pM (off8_eq c h s) _ _ _
    rw [e]; rfl
  | b2 d h =>
    have e : opM c (.b2 d h) = halfM c d (h + 2) := by
      cases d
      · exact congrArg (fun m : Memref sig .tc .vmem S1x1x64x256 .f32 => m.squeeze S64x256 squeezes_S1x1x64x256_S64x256) (slice_off b1M (off11_eq c h) _ _ _)
      · exact congrArg (fun m : Memref sig .tc .vmem S1x1x64x256 .f32 => m.squeeze S64x256 squeezes_S1x1x64x256_S64x256) (slice_off b1M (off12_eq c h) _ _ _)
    rw [e]; rfl

/-! ## The rows cut anew -/

/-- A two-dimensional index under two leading axes of extent one. -/
theorem reshape_one_one {a b : ℕ} (h : (⟨2, ![a, b]⟩ : Shape).numel = (⟨4, ![1, 1, a, b]⟩ : Shape).numel) (x : (⟨2, ![a, b]⟩ : Shape).Idx) :
    Shape.reshapeEquiv h x = (Fin.cons ⟨0, Nat.one_pos⟩ (Fin.cons ⟨0, Nat.one_pos⟩ x : (⟨3, ![1, a, b]⟩ : Shape).Idx) : (⟨4, ![1, 1, a, b]⟩ : Shape).Idx) := by
  have h₁ : (⟨2, ![a, b]⟩ : Shape).numel = (⟨3, ![1, a, b]⟩ : Shape).numel := by simp [Shape.numel, Fin.prod_univ_succ]
  have h₂ : (⟨3, ![1, a, b]⟩ : Shape).numel = (⟨4, ![1, 1, a, b]⟩ : Shape).numel := h₁.symm.trans h
  rw [show Shape.reshapeEquiv h x = Shape.reshapeEquiv h₂ (Shape.reshapeEquiv h₁ x) from (Shape.reshapeEquiv_reshapeEquiv h₂ h₁ x).symm]
  rw [Shape.reshapeEquiv_cons_one (d := ![a, b]) h₁ x]
  exact Shape.reshapeEquiv_cons_one (d := ![1, a, b]) h₂ _

theorem acc_b1_read (c : Dev nD) (d : Bool) (s : Fin 4) :
    (slotM (.b1 d 2 s)).view.read (Elt F) (b1C P c d) = accV P c (.b1 d 2 s) := by
  funext j
  have e : (slotM (.b1 d 2 s)).view.read (Elt F) (b1C P c d) j
      = b1C P c d ((b1R d 2 s).emb (Shape.reshapeEquiv squeezes_S1x1x128x256_S128x256.numel_eq j)) := rfl
  rw [e, reshape_one_one]
  have h0 : (j 0).val < 128 := (j 0).isLt
  have hi : ∀ i : S2x3x512x256.Idx, (i 2).val = 128 * s.val + (j 0).val → (i 3).val = (j 1).val → b1C P c d i = b1V P d s 2 c j := by
    intro i h2 h3
    unfold b1C
    have hs : (⟨(i 2).val / 128, by have h : (i 2).val < 512 := (i 2).isLt; omega⟩ : Fin 4) = s := Fin.ext (by show (i 2).val / 128 = s.val; omega)
    rw [hs]
    refine congrArg (b1V P d s 2 c) ?_
    rw [← Shape.pair_eta j]
    refine congrArg₂ Shape.pair (Fin.ext ?_) (Fin.ext ?_)
    · show (i 2).val % 128 = (j 0).val; omega
    · exact h3
  refine hi _ ?_ ?_
  · show 128 * s.val + 1 * (j 0).val = _; omega
  · show 0 + 1 * (j 1).val = _; omega

theorem mem_b1 (d : Bool) (s : Fin 4) (i : S2x3x512x256.Idx) :
    i ∈ (b1R d 2 s).set ↔ (i 0).val = d.toNat ∧ (i 1).val = 2 ∧ (i 2).val / 128 = s.val := by
  rw [Rect.mem_set_unit]
  have h3 : (i 3).val < 256 := (i 3).isLt
  constructor
  · intro h
    have h0 : d.toNat ≤ (i 0).val ∧ (i 0).val < d.toNat + 1 := h 0
    have h1 : 2 ≤ (i 1).val ∧ (i 1).val < 2 + 1 := h 1
    have h2 : 128 * s.val ≤ (i 2).val ∧ (i 2).val < 128 * s.val + 128 := h 2
    omega
  · rintro ⟨h0, h1, h2⟩ a
    match a with
    | 0 => show d.toNat ≤ (i 0).val ∧ (i 0).val < d.toNat + 1; omega
    | 1 => show 2 ≤ (i 1).val ∧ (i 1).val < 2 + 1; omega
    | 2 => show 128 * s.val ≤ (i 2).val ∧ (i 2).val < 128 * s.val + 128; omega
    | 3 => show 0 ≤ (i 3).val ∧ (i 3).val < 0 + 256; omega

theorem mem_half (c : Dev nD) (d : Bool) (t : ℕ) (i : S2x3x512x256.Idx) :
    i ∈ (halfR c d t).set ↔ (i 0).val = d.toNat ∧ (i 1).val = 2 ∧ (i 2).val / 64 = rrel c d t := by
  rw [Rect.mem_set_unit]
  have h3 : (i 3).val < 256 := (i 3).isLt
  constructor
  · intro h
    have h0 : d.toNat ≤ (i 0).val ∧ (i 0).val < d.toNat + 1 := h 0
    have h1 : 2 ≤ (i 1).val ∧ (i 1).val < 2 + 1 := h 1
    have h2 : 64 * rrel c d t ≤ (i 2).val ∧ (i 2).val < 64 * rrel c d t + 64 := h 2
    omega
  · rintro ⟨h0, h1, h2⟩ a
    match a with
    | 0 => show d.toNat ≤ (i 0).val ∧ (i 0).val < d.toNat + 1; omega
    | 1 => show 2 ≤ (i 1).val ∧ (i 1).val < 2 + 1; omega
    | 2 => show 64 * rrel c d t ≤ (i 2).val ∧ (i 2).val < 64 * rrel c d t + 64; omega
    | 3 => show 0 ≤ (i 3).val ∧ (i 3).val < 0 + 256; omega

/-- The eight positions of a ring, counted from a device's own. -/
theorem rrel_inj (c : Dev nD) (d : Bool) (t t' : Fin 8) (h : rrel c d (t.val + 1) = rrel c d (t'.val + 1)) : t = t' := by
  revert c d t t'; decide +kernel
theorem rrel_surj (c : Dev nD) (d : Bool) (b : Fin 8) : ∃ t : Fin 8, rrel c d (t.val + 1) = b.val := by
  revert c d b; decide +kernel

/-- Some of the rows landed along `z` in the second half, at given contents. -/
def rowsAt (c : Dev nD) (S : Finset S2x3x512x256.Idx) (X : S2x3x512x256.Idx → F .f32) : sProp 𝕄 :=
  (((c : Thread nD τ).loc cc0_scratch3) ↦[S]{fullShare} X)

theorem rowsAt_union (c : Dev nD) {T : Type} [Fintype T] (K : T → Finset S2x3x512x256.Idx) (X : S2x3x512x256.Idx → F .f32)
    (h : ∀ t t', t ≠ t' → Disjoint (K t) (K t')) :
    (bigSep Finset.univ fun t => rowsAt c (K t) X) = rowsAt c (Finset.univ.biUnion K) X :=
  (pointsTo_biUnion (ℓ := (c : Thread nD τ).loc cc0_scratch3) Finset.univ K (fun t _ t' _ hn => h t t' hn)).symm

theorem rows_cut (c : Dev nD) (d : Bool) :
    (bigSep Finset.univ fun s => factOwn P c (.acc (.b1 d 2 s))) ⊢ (bigSep Finset.univ fun t => factOwn P c (.half d t) : sProp 𝕄) := by
  have e₁ : ∀ s, factOwn P c (.acc (.b1 d 2 s)) = rowsAt c (b1R d 2 s).set (b1C P c d) := fun s =>
    (congrArg (own c (slotM (.b1 d 2 s))) (acc_b1_read P c d s).symm).trans ((own_squeeze c b1M (b1R d 2 s) (fun _ => rfl) squeezes_S1x1x128x256_S128x256 (b1C P c d)).trans
      (congrArg (fun S => rowsAt c S (b1C P c d)) (View.set_slice_whole cc0_scratch3 (b1R d 2 s))))
  have e₂ : ∀ t : Fin 8, factOwn P c (.half d t) = rowsAt c (halfR c d (t.val + 1)).set (b1C P c d) := fun t =>
    (own_squeeze c b1M (halfR c d (t.val + 1)) (fun _ => rfl) squeezes_S1x1x64x256_S64x256 (b1C P c d)).trans
      (congrArg (fun S => rowsAt c S (b1C P c d)) (View.set_slice_whole cc0_scratch3 (halfR c d (t.val + 1))))
  simp only [e₁, e₂]
  rw [rowsAt_union c (fun s : Fin 4 => (b1R d 2 s).set), rowsAt_union c (fun t : Fin 8 => (halfR c d (t.val + 1)).set)]
  · refine Entails.of_eq (congrArg (fun S => rowsAt c S (b1C P c d)) ?_)
    ext i
    simp only [Finset.mem_biUnion, Finset.mem_univ, true_and, mem_b1, mem_half]
    have h2 : (i 2).val < 512 := (i 2).isLt
    constructor
    · rintro ⟨s, h0, h1, -⟩
      obtain ⟨t, ht⟩ := rrel_surj c d ⟨(i 2).val / 64, by omega⟩
      exact ⟨t, h0, h1, ht.symm⟩
    · rintro ⟨t, h0, h1, -⟩
      exact ⟨⟨(i 2).val / 128, by omega⟩, h0, h1, rfl⟩
  · intro t t' hn
    refine Finset.disjoint_left.mpr fun i hi hi' => hn (rrel_inj c d t t' ?_)
    rw [← ((mem_half c d _ i).mp hi).2.2, ← ((mem_half c d _ i).mp hi').2.2]
  · intro s s' hn
    refine Finset.disjoint_left.mpr fun i hi hi' => hn (Fin.ext ?_)
    rw [← ((mem_b1 d s i).mp hi).2.2, ← ((mem_b1 d s' i).mp hi').2.2]

end Cert.SumProof

end
-- ==== Proof.Steps.lean ====
/-
# The events, one by one

What each kind of event takes and what it leaves: a rule for each, at any copy.
-/
module

public import proofs.«01_k».proof.Proof.Pieces

@[expose] public section

noncomputable section

namespace Cert.SumProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of the body on device `c`, run to `Q`. -/
abbrev go (c : Dev nD) (p : Prog (BodyEff F) PUnit) (Q : PUnit → sProp 𝕄) : sProp 𝕄 :=
  wp frame (wpE (defs₀ (F := F)) 𝒱₀ (c : Thread nD τ) none) Set.univ p Q

/-- What a device owes, whatever it has waited for. -/
def owesAny (c : Dev nD) (O : CellTallies nD τ sig Unit) : sProp 𝕄 := iprop(∃ W, owes (c : Thread nD τ) O W)

variable (P : Dev nD → FVec F S2048x2048 .f32) (K : Dev nD × CI → ℕ)

/-- A cell's invariant, at the name the launch gave it, and that its round 0 is reached. -/
def rec1 (p : Dev nD × CI) : sProp 𝕄 := iprop(cellInv ER (rd P) (K p) (cell p.1 p.2) ∗ reached ER (cell p.1 p.2) 0)
instance rec1_persistent (p : Dev nD × CI) : BI.Persistent (rec1 P K p) := by unfold rec1; infer_instance
/-- Those of all the cells of all the devices. -/
def records : sProp 𝕄 := bigSep Finset.univ (rec1 P K)
instance records_persistent : BI.Persistent (records P K) := by unfold records; infer_instance
theorem records_at (p : Dev nD × CI) : records P K ⊢ (rec1 P K p : sProp 𝕄) := bigSep_elim (Finset.mem_univ p)

/-! ## Copies -/

theorem wp_sendP (c : Dev nD) (k : Copy) (l : List Debt) (p : Prog (BodyEff F) PUnit) (Q : PUnit → sProp 𝕄) :
    iprop(records P K ∗ sndPay P c k ∗ slotAny (F := F) (tgt c k) k ∗ owesAny c (owed c (.inr k :: l))
        ∗ dutyTok ER (snd c k) 0 Side.succ ∗ dutyTok ER (rcv (tgt c k) k) 0 Side.succ)
      ⊢ iprop(((cred (tallyAt (snd c k) () (N k)) ∗ owesAny c (owed c l)) -∗ go c p Q) -∗ go c (sendP c k p) Q) := by
  unfold owesAny
  iintro ⟨#HR, Hsrc, Hdst, ⟨%W, HO⟩, Hts, Htr⟩ Hk
  ihave Hi₁ := (records_at P K (c, some (false, k))) $$ HR
  ihave Hi₂ := (records_at P K (tgt c k, some (true, k))) $$ HR
  unfold rec1
  icases Hi₁ with ⟨Hi₁, Hr₁⟩
  icases Hi₂ with ⟨Hi₂, Hr₂⟩
  unfold sndPay slotAny ownsTc owns
  icases Hsrc with ⟨%fs, %hfs, Hsrc⟩
  icases Hdst with ⟨%X, %fd, %hfd, Hdst⟩
  iapply (Rounds.wp_send_pointsTo 𝒱₀ ER (rd P) (c : Thread nD τ) none (κ₁ := K (c, some (false, k))) (κ₂ := K (tgt c k, some (true, k)))
    (r₁ := 0) (r₂ := 0) (d₁ := Side.succ) (d₂ := Side.succ) (fd := fd)
    (by rw [duties_copy]; exact Finset.mem_singleton_self _) (by rw [duties_copy]; exact Finset.mem_singleton_self _)
    () () (N k) rfl (amount_copy P c false k _) (amount_copy P (tgt c k) true k _) (owed c l) rfl (W := W)
    (by
      rw [payload_cell]; show _ ⊢ owns (Val := Elt F) (c : Thread nD τ) (srcM c k) fullShare (srcV P c k)
      rw [← hfs]; exact owns_intro _ _ _ _)
    (by
      rw [payload_cell]; show _ ⊢ owns (Val := Elt F) ((tgt c k : Dev nD) : Thread nD τ) (slotM k) fullShare (srcV P (frm (tgt c k) k) k)
      rw [frm_tgt, ← hfs]
      refine (owns_intro _ _ _ _).trans (Entails.of_eq (congrArg _ ?_))
      exact View.read_write_univ _ _)) $$ [Hsrc Hdst HO Hts Htr Hi₁ Hi₂ Hr₁ Hr₂]
  · isplitl [Hi₁]; · iexact Hi₁
    isplitl [Hi₂]; · iexact Hi₂
    isplitl [Hsrc]; · iexact Hsrc
    isplitl [Hdst]; · iexact Hdst
    isplitl [HO]; · iexact HO
    isplitl [Hts]; · iexact Hts
    isplitl [Hr₁]; · iexact Hr₁
    isplitl [Htr]; · iexact Htr
    iexact Hr₂
  iintro ⟨Hc, HO⟩
  iapply Hk
  isplitl [Hc]; · iexact Hc
  iexists W; iexact HO

/-- A wait on a copy's semaphore, for its credit: the payload comes, and the semaphore, its one round over, is closed. -/
theorem wp_wait_copy (c : Dev nD) (b : Bool) (k : Copy) {w : TpuEff nD τ sig (Elt F) Λ₀ .tc PUnit}
    (hw : ∀ Φ : PUnit → sProp 𝕄, wpE (defs₀ (F := F)) 𝒱₀ (c : Thread nD τ) none Set.univ w Φ = waitSpec (c : Thread nD τ) Set.univ (csem (some (b, k))) (N k) Φ)
    (O : CellTallies nD τ sig Unit) (p : Prog (BodyEff F) PUnit) (Q : PUnit → sProp 𝕄) :
    iprop(records P K ∗ cred (tallyAt (cell c (some (b, k))) () (N k)) ∗ owesAny c O ∗ MayWait (c : Thread nD τ) (csem (some (b, k))) () O ∗ atPos ER (cell c (some (b, k))) 0 ∅ 0)
      ⊢ iprop(((pay P c (some (b, k)) .succ ∗ owesAny c O ∗ semVal (cell c (some (b, k))) 0) -∗ go c p Q) -∗ go c (.op w fun _ => p) Q) := by
  unfold owesAny
  iintro ⟨#HR, Hc, ⟨%W, HO⟩, Hm, Hat⟩ Hk
  ihave Hi := (records_at P K (c, some (b, k))) $$ HR
  unfold rec1
  icases Hi with ⟨#Hi, -⟩
  iapply (Rounds.wp_wait_rest_token 𝒱₀ ER (rd P) (c : Thread nD τ) none (κ := K (c, some (b, k)))
      hw (Set.mem_univ _) () (O := O) (W := W) (R := 0) (m := 0) (T := ∅)
      ((Nat.zero_add _).trans (expect_copy P c b k).symm)) $$ [Hc HO Hm Hat]
  · isplitr; · iexact Hi
    isplitl [Hc]; · iexact Hc
    isplitl [HO]; · iexact HO
    isplitl [Hm]; · iexact Hm
    iexact Hat
  iintro ⟨HO, Hat, -, Hpay⟩
  ihave Hp := (Entails.of_eq (rest_copy P c b k)) $$ Hpay
  imod (Rounds.cell_close ER (rd P) (Set.mem_univ (K (c, some (b, k)))) (fun h => h) (R := 0 + 1) (duties_later P (cell c (some (b, k))))) $$ [Hat] with Hz
  · isplitr; · iexact Hi
    iexact Hat
  iapply Hk
  isplitl [Hp]; · iexact Hp
  isplitl [HO]; · iexists _; iexact HO
  iexact Hz

theorem wp_recvP (c : Dev nD) (k : Copy) (l : List Debt) (h : ∀ i ∈ l, rlev k < dlev i) (p : Prog (BodyEff F) PUnit) (Q : PUnit → sProp 𝕄) :
    iprop(records P K ∗ levAts L lv ∗ cred (tallyAt (rcv c k) () (N k)) ∗ owesAny c (owed c l) ∗ atPos ER (rcv c k) 0 ∅ 0)
      ⊢ iprop(((factOwn P c (.raw k) ∗ owesAny c (owed c l) ∗ semVal (rcv c k) 0) -∗ go c p Q) -∗ go c (recvP c k p) Q) := by
  iintro ⟨#HR, #Hlev, Hc, HO, Hat⟩ Hk
  iapply (wp_wait_copy P K c true k (wpE_waitDma2_eq 𝒱₀ (c : Thread nD τ) none Set.univ) (owed c l) p Q) $$ [Hc HO Hat]
  · isplitr; · iexact HR
    isplitl [Hc]; · iexact Hc
    isplitl [HO]; · iexact HO
    isplitr
    · iapply (mayWait c (csem (some (true, k))) l (fun i hi => lt_of_eq_of_lt (by simp only [lv, ci_csem]) (h i hi))); iexact Hlev
    iexact Hat
  iexact Hk

theorem wp_sentP (c : Dev nD) (k : Copy) (p : Prog (BodyEff F) PUnit) (Q : PUnit → sProp 𝕄) :
    iprop(records P K ∗ cred (tallyAt (snd c k) () (N k)) ∗ owesAny c 0 ∗ atPos ER (snd c k) 0 ∅ 0)
      ⊢ iprop(((factOwn P c (srcFact k) ∗ owesAny c 0 ∗ semVal (snd c k) 0) -∗ go c p Q) -∗ go c (sentP c k p) Q) := by
  rw [src_eq]
  iintro ⟨#HR, Hc, HO, Hat⟩ Hk
  iapply (wp_wait_copy P K c false k (fun Φ => (wpE_waitDma2_eq 𝒱₀ (c : Thread nD τ) none Set.univ Φ).trans
    (congrArg (fun n => waitSpec (c : Thread nD τ) Set.univ (csem (some (false, k))) n Φ) (N_src c k))) 0 p Q) $$ [Hc HO Hat]
  · isplitr; · iexact HR
    isplitl [Hc]; · iexact Hc
    isplitl [HO]; · iexact HO
    isplitr; · rw [MayWait_zero]; iempintro
    iexact Hat
  iexact Hk

/-! ## Sums -/

/-- A rectangle read at another shape of as many elements is what the squeezed place reads. -/
theorem read_cast {s₁ s : Shape} (M : Memref sig .tc .vmem s₁ .f32) (r : Rect s₁) (hr : ∀ a, r.stride a = 1) (h : r.shape.ShapeCasts s) (hs : r.shape.Squeezes s)
    (f : M.view.ty.Contents (Elt F)) :
    shapeCast s (M.view.readAt (Elt F) r.toLoadRect f : Vec F r.shape .f32) h = ((M.slice r hr).squeeze s hs).view.read (Elt F) f := rfl

/-- What is stored through the rectangle at its own shape is, read at the other, what was to be stored. -/
theorem read_store {s₁ s : Shape} (M : Memref sig .tc .vmem s₁ .f32) (r : Rect s₁) (hr : ∀ a, r.stride a = 1) (h' : s.ShapeCasts r.shape) (hs : r.shape.Squeezes s)
    (f : M.view.ty.Contents (Elt F)) (Z : FVec F s .f32) :
    ((M.slice r hr).squeeze s hs).view.read (Elt F) ((M.access r).write (Elt F) f (shapeCast r.shape Z h' : Vec F r.shape .f32) Finset.univ) = Z := by
  funext j
  have e : ((M.slice r hr).squeeze s hs).view.read (Elt F) ((M.access r).write (Elt F) f (shapeCast r.shape Z h' : Vec F r.shape .f32) Finset.univ) j
      = (M.access r).read (Elt F) ((M.access r).write (Elt F) f (shapeCast r.shape Z h' : Vec F r.shape .f32) Finset.univ) (Shape.reshapeEquiv hs.numel_eq j) := rfl
  rw [e, View.read_write_univ]
  show Z (Shape.reshapeEquiv _ (Shape.reshapeEquiv _ j)) = Z j
  rw [Shape.reshapeEquiv_reshapeEquiv, Shape.reshapeEquiv_self]

/-- The sum of a landing place and another place `m₂` of a buffer `M₂`, which the body reads through `r₂` and `e₂`. -/
theorem wp_addP (c : Dev nD) {s₁ s₂ s : Shape} (M : Memref sig .tc .vmem s₁ .f32) (r : Rect s₁) (hr : ∀ a, r.stride a = 1) (hp : 0 < r.shape.numel)
    (h : r.shape.ShapeCasts s) (h' : s.ShapeCasts r.shape) (hs : r.shape.Squeezes s)
    (M₂ : Memref sig .tc .vmem s₂ .f32) (r₂ : Rect s₂) (hp₂ : 0 < r₂.shape.numel) (e₂ : s.Idx → r₂.shape.Idx)
    (X Y : FVec F s .f32) (S₂ : sProp 𝕄)
    (hS₂ : S₂ = iprop(∃ g : M₂.view.ty.Contents (Elt F), ⌜(fun j => M₂.view.readAt (Elt F) r₂.toLoadRect g (e₂ j)) = Y⌝ ∗ (M₂.view.loc (c : Thread nD τ) ↦[(M₂.view.slice r₂).set]{fullShare} g)))
    (p : Prog (BodyEff F) PUnit) (Q : PUnit → sProp 𝕄) :
    iprop(own c ((M.slice r hr).squeeze s hs) X ∗ S₂)
      ⊢ iprop(((own c ((M.slice r hr).squeeze s hs) (addf X Y) ∗ S₂) -∗ go c p Q) -∗ go c (addP M r hp h h' M₂ r₂ hp₂ e₂ p) Q) := by
  subst hS₂
  unfold own ownsTc owns addP
  iintro ⟨⟨%f, %hf, HM⟩, ⟨%g, %hg, HM₂⟩⟩ Hk
  have hset : ((M.slice r hr).squeeze s hs).view.set = (M.view.slice r).set := View.set_reshape _ _
  iapply (wp_load 𝒱₀ (c : Thread nD τ) none Set.univ (m := M) (r := r.toLoadRect) (by rw [hset, View.set_slice]; exact subset_of_eq rfl)) $$ HM; iintro HM
  iapply (wp_load 𝒱₀ (c : Thread nD τ) none Set.univ (m := M₂) (r := r₂.toLoadRect) (by rw [View.set_slice]; exact subset_of_eq rfl)) $$ HM₂; iintro HM₂
  iapply (wp_load 𝒱₀ (c : Thread nD τ) none Set.univ (m := M) (r := r.toLoadRect) (by rw [hset, View.set_slice]; exact subset_of_eq rfl)) $$ HM; iintro HM
  iapply (wp_store 𝒱₀ (c : Thread nD τ) none Set.univ (m := M) (r := r) (Mk := Finset.univ) (by rw [hset]; exact subset_of_eq rfl)) $$ HM; iintro HM
  iapply Hk
  isplitl [HM]
  · iexists ((M.access r).write (Elt F) f (shapeCast r.shape (addf (shapeCast s (M.view.readAt (Elt F) r.toLoadRect f : Vec F r.shape .f32) h)
      (fun j => M₂.view.readAt (Elt F) r₂.toLoadRect g (e₂ j)) : FVec F s .f32) h' : Vec F r.shape .f32) Finset.univ)
    isplitr
    · ipureintro
      refine (read_store M r hr h' hs f _).trans ?_
      rw [read_cast M r hr h hs f, hf]
      exact congrArg (addf X) hg
    · iexact HM
  · iexists g; isplitr; · ipureintro; exact hg
    iexact HM₂

theorem wp_addP_slice (c : Dev nD) {s₁ s₂ : Shape} (M : Memref sig .tc .vmem s₁ .f32) (r : Rect s₁) (hr : ∀ a, r.stride a = 1) (hp : 0 < r.shape.numel)
    (M₂ : Memref sig .tc .vmem s₂ .f32) (r₂ : Rect s₂) (hr₂ : ∀ a, r₂.stride a = 1) (hp₂ : 0 < r₂.shape.numel)
    (h : r.shape.ShapeCasts r₂.shape) (h' : r₂.shape.ShapeCasts r.shape) (hs : r.shape.Squeezes r₂.shape)
    (X Y : FVec F r₂.shape .f32) (p : Prog (BodyEff F) PUnit) (Q : PUnit → sProp 𝕄) :
    iprop(own c ((M.slice r hr).squeeze r₂.shape hs) X ∗ own c (M₂.slice r₂ hr₂) Y)
      ⊢ iprop(((own c ((M.slice r hr).squeeze r₂.shape hs) (addf X Y) ∗ own c (M₂.slice r₂ hr₂) Y) -∗ go c p Q) -∗ go c (addP M r hp h h' M₂ r₂ hp₂ id p) Q) :=
  wp_addP c M r hr hp h h' hs M₂ r₂ hp₂ id X Y _ rfl p Q

theorem wp_addP_squeeze (c : Dev nD) {s₁ s₂ s : Shape} (M : Memref sig .tc .vmem s₁ .f32) (r : Rect s₁) (hr : ∀ a, r.stride a = 1) (hp : 0 < r.shape.numel)
    (h : r.shape.ShapeCasts s) (h' : s.ShapeCasts r.shape) (hs : r.shape.Squeezes s)
    (M₂ : Memref sig .tc .vmem s₂ .f32) (r₂ : Rect s₂) (hr₂ : ∀ a, r₂.stride a = 1) (hp₂ : 0 < r₂.shape.numel) (hs₂ : r₂.shape.Squeezes s)
    (X Y : FVec F s .f32) (p : Prog (BodyEff F) PUnit) (Q : PUnit → sProp 𝕄) :
    iprop(own c ((M.slice r hr).squeeze s hs) X ∗ own c ((M₂.slice r₂ hr₂).squeeze s hs₂) Y)
      ⊢ iprop(((own c ((M.slice r hr).squeeze s hs) (addf X Y) ∗ own c ((M₂.slice r₂ hr₂).squeeze s hs₂) Y) -∗ go c p Q)
          -∗ go c (addP M r hp h h' M₂ r₂ hp₂ (Shape.reshapeEquiv hs₂.numel_eq) p) Q) :=
  wp_addP c M r hr hp h h' hs M₂ r₂ hp₂ _ X Y _ (by
    unfold own ownsTc owns
    rw [show ((M₂.slice r₂ hr₂).squeeze s hs₂).view.set = (M₂.view.slice r₂).set from View.set_reshape _ _]
    rfl) p Q

/-- The closing function of the sum of two places, stored in a third. -/
theorem wp_outP (c : Dev nD) {s₁ s₂ s : Shape} (M : Memref sig .tc .vmem s₁ .f32) (r : Rect s₁) (hr : ∀ a, r.stride a = 1) (hp : 0 < r.shape.numel)
    (h : r.shape.ShapeCasts s) (hs : r.shape.Squeezes s)
    (M₂ : Memref sig .tc .vmem s₂ .f32) (r₂ : Rect s₂) (hr₂ : ∀ a, r₂.stride a = 1) (hp₂ : 0 < r₂.shape.numel) (h₂ : r₂.shape.ShapeCasts s) (hs₂ : r₂.shape.Squeezes s)
    (r₃ : Rect S64x2048) (hr₃ : ∀ a, r₃.stride a = 1) (hp₃ : 0 < r₃.shape.numel) (e₃ : FVec F s .f32 → FVec F r₃.shape .f32)
    (X Y : FVec F s .f32) (p : Prog (BodyEff F) PUnit) (Q : PUnit → sProp 𝕄) :
    iprop(own c ((M.slice r hr).squeeze s hs) X ∗ own c ((M₂.slice r₂ hr₂).squeeze s hs₂) Y ∗ ∃ Z, own c (oM.slice r₃ hr₃) Z)
      ⊢ iprop(((own c ((M.slice r hr).squeeze s hs) X ∗ own c ((M₂.slice r₂ hr₂).squeeze s hs₂) Y ∗ own c (oM.slice r₃ hr₃) (e₃ (closing (addf X Y)))) -∗ go c p Q)
          -∗ go c (outP M r hp h M₂ r₂ hp₂ h₂ r₃ hp₃ e₃ p) Q) := by
  unfold own ownsTc owns outP
  iintro ⟨⟨%f, %hf, HM⟩, ⟨%g, %hg, HM₂⟩, ⟨%Z, %o, %ho, Ho⟩⟩ Hk
  have hset : ((M.slice r hr).squeeze s hs).view.set = (M.view.slice r).set := View.set_reshape _ _
  have hset₂ : ((M₂.slice r₂ hr₂).squeeze s hs₂).view.set = (M₂.view.slice r₂).set := View.set_reshape _ _
  iapply (wp_load 𝒱₀ (c : Thread nD τ) none Set.univ (m := M) (r := r.toLoadRect) (by rw [hset, View.set_slice]; exact subset_of_eq rfl)) $$ HM; iintro HM
  iapply (wp_load 𝒱₀ (c : Thread nD τ) none Set.univ (m := M₂) (r := r₂.toLoadRect) (by rw [hset₂, View.set_slice]; exact subset_of_eq rfl)) $$ HM₂; iintro HM₂
  iapply (wp_load 𝒱₀ (c : Thread nD τ) none Set.univ (m := oM) (r := r₃.toLoadRect) (subset_of_eq (View.set_slice oM.view r₃).symm)) $$ Ho; iintro Ho
  iapply (wp_store 𝒱₀ (c : Thread nD τ) none Set.univ (m := oM) (r := r₃) (Mk := Finset.univ) (S := (oM.slice r₃ hr₃).view.set) (subset_of_eq rfl)) $$ Ho; iintro Ho
  iapply Hk
  isplitl [HM]
  · iexists f; isplitr; · ipureintro; exact hf
    iexact HM
  isplitl [HM₂]
  · iexists g; isplitr; · ipureintro; exact hg
    iexact HM₂
  iexists ((oM.access r₃).write (Elt F) o (e₃ (closing (addf (shapeCast s (M.view.readAt (Elt F) r.toLoadRect f : Vec F r.shape .f32) h)
      (shapeCast s (M₂.view.readAt (Elt F) r₂.toLoadRect g : Vec F r₂.shape .f32) h₂)))) Finset.univ)
  isplitr
  · ipureintro
    refine (View.read_write_univ _ _).trans ?_
    rw [read_cast M r hr h hs f, read_cast M₂ r₂ hr₂ h₂ hs₂ g, hf, hg]
  · iexact Ho

end Cert.SumProof

end
-- ==== Proof.Run.lean ====
/-
# The run of the events

What a device holds between two events is listed by a state: the copies it has still to start, those still to arrive,
those under way, and its pieces. `step` says which state an event leaves, and refuses an event that lacks what it takes
or that waits while something not above it is owed; a run that `step` accepts is a run of the program.
-/
module

public import proofs.«01_k».proof.Proof.Steps
public import Idealize.ShloMosaic.Lib.Pipeline.BigSepL

@[expose] public section

noncomputable section

namespace Cert.SumProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The states -/

/-- The copies to start (in order), to arrive, and under way; those arrived and those left; the pieces held. -/
structure St where
  uns : List Copy
  unr : List Copy
  infl : List Copy
  zr : List Copy
  zs : List Copy
  facts : List Fact

/-- Take pieces out of a list. -/
def takes : List Fact → List Fact → Option (List Fact)
  | l, [] => some l
  | l, a :: t => if a ∈ l then takes (l.erase a) t else none

/-- The pieces the last sum of a half is made from. -/
def lastL : Bool → Bool → Fact
  | false, d => .raw (.a2 d 2)
  | true, d => .raw (.b2 d 6)
def lastR : Bool → Bool → Fact
  | false, d => .acc (.a1 d 6 3)
  | true, d => .half d 7

/-- The state an event leaves, when it may be run. -/
def step : Ev → St → Option St
  | .send _, ⟨[], _, _, _, _, _⟩ => none
  | .send k, ⟨k' :: u, r, i, zr, zs, f⟩ => if k' = k then (takes f [srcFact k]).map fun f => ⟨u, r, k :: i, zr, zs, f⟩ else none
  | .recv k, ⟨u, r, i, zr, zs, f⟩ => if k ∈ r ∧ ∀ k' ∈ u, rlev k < rlev k' then some ⟨u, r.erase k, i, k :: zr, zs, .raw k :: f⟩ else none
  | .add k, ⟨u, r, i, zr, zs, f⟩ => (takes f [.raw k, opFact k]).map fun f => ⟨u, r, i, zr, zs, .acc k :: opFact k :: f⟩
  | .rows d, ⟨u, r, i, zr, zs, f⟩ => (takes f ((List.finRange 4).map fun s => .acc (.b1 d 2 s))).map fun f =>
      ⟨u, r, i, zr, zs, ((List.finRange 8).map fun t => .half d t) ++ f⟩
  | .out b d, ⟨u, r, i, zr, zs, f⟩ => (takes f [lastL b d, lastR b d, .res b d]).map fun f =>
      ⟨u, r, i, zr, zs, lastL b d :: lastR b d :: .done b d :: f⟩
  | .sent k, ⟨u, r, i, zr, zs, f⟩ => if u = [] ∧ k ∈ i then some ⟨u, r, i.erase k, zr, k :: zs, srcFact k :: f⟩ else none

/-- The state a list of events leaves. -/
def steps : List Ev → St → Option St
  | [], σ => some σ
  | e :: es, σ => (step e σ).bind (steps es)

/-! ## What a state owns -/

theorem sep_shift {M : Type} [URA M] (A B C : sProp M) : iprop((A ∗ B) ∗ C) = iprop(A ∗ B ∗ C) := BI.equiv_iff.mp ⟨BI.sep_assoc, BI.sep_assoc'⟩

theorem bigSepL_erase {M : Type} [URA M] {α : Type} [DecidableEq α] (Φ : α → sProp M) {a : α} {l : List α} (h : a ∈ l) :
    bigSepL l Φ = iprop(Φ a ∗ bigSepL (l.erase a) Φ) := by
  induction l with
  | nil => cases h
  | cons b l ih =>
    by_cases e : b = a
    · subst e; rw [List.erase_cons_head, bigSepL_cons']
    · rw [List.erase_cons_tail (by simpa using e), bigSepL_cons', bigSepL_cons', ih ((List.mem_cons.mp h).resolve_left (Ne.symm e))]
      rw [← sep_shift, show iprop(Φ b ∗ Φ a) = iprop(Φ a ∗ Φ b) from BI.equiv_iff.mp ⟨BI.sep_comm, BI.sep_comm⟩, sep_shift]

theorem bigSepL_takes {M : Type} [URA M] (Φ : Fact → sProp M) {l t r : List Fact} (h : takes l t = some r) :
    bigSepL l Φ = iprop(bigSepL t Φ ∗ bigSepL r Φ) := by
  induction t generalizing l with
  | nil => cases h; rw [bigSepL_nil]; exact BI.equiv_iff.mp emp_sep.symm
  | cons a t ih =>
    unfold takes at h
    split at h
    · rename_i ha
      rw [bigSepL_erase Φ ha, ih h, bigSepL_cons']
      exact (sep_shift _ _ _).symm
    · cases h

variable (P : Dev nD → FVec F S2048x2048 .f32) (K : Dev nD × CI → ℕ) (c : Dev nD)

def unsOwn (k : Copy) : sProp 𝕄 :=
  iprop(dutyTok ER (snd c k) 0 Side.succ ∗ dutyTok ER (rcv (tgt c k) k) 0 Side.succ ∗ atPos ER (snd c k) 0 ∅ 0 ∗ slotAny (F := F) (tgt c k) k)
def unrOwn (k : Copy) : sProp 𝕄 := iprop(cred (tallyAt (rcv c k) () (N k)) ∗ atPos ER (rcv c k) 0 ∅ 0)
def inflOwn (k : Copy) : sProp 𝕄 := iprop(cred (tallyAt (snd c k) () (N k)) ∗ atPos ER (snd c k) 0 ∅ 0)

def stOwn (σ : St) : sProp 𝕄 :=
  iprop(owesAny c (owed c (σ.uns.map .inr)) ∗ bigSepL σ.uns (unsOwn (F := F) c) ∗ bigSepL σ.unr (unrOwn (F := F) c) ∗ bigSepL σ.infl (inflOwn (F := F) c)
    ∗ bigSepL σ.zr (fun k => semVal (rcv c k) 0) ∗ bigSepL σ.zs (fun k => semVal (snd c k) 0) ∗ bigSepL σ.facts (factOwn P c))

/-! ## A step -/

theorem wp_accP (k : Copy) (p : Prog (BodyEff F) PUnit) (Q : PUnit → sProp 𝕄) :
    iprop(factOwn P c (.raw k) ∗ factOwn P c (opFact k))
      ⊢ iprop(((factOwn P c (.acc k) ∗ factOwn P c (opFact k)) -∗ go c p Q) -∗ go c (accP c k p) Q) := by
  rw [op_eq]
  show iprop(own c (slotM k) (rawV P c k) ∗ _) ⊢ iprop(((own c (slotM k) (accV P c k) ∗ _) -∗ _) -∗ _)
  rw [← accV_eq]
  cases k with
  | a1 d h g =>
    cases d
    · exact wp_addP_slice c a1M (a1R false h g) (fun _ => rfl) h_S1x1x1x64x768 pM
        (Rect.unit (k0_off5 c (BitVec.ofNat 32 g.val) (BitVec.ofNat 32 (4294967288 + (Fin.rev h).val))) S64x768.size (k0_off5_inb c g (Fin.rev h))) (fun _ => rfl) h_S64x768
        shapeCasts_S1x1x1x64x768_S64x768 shapeCasts_S64x768_S1x1x1x64x768 squeezes_S1x1x1x64x768_S64x768 (rawV P c (.a1 false h g)) (opV P c (.a1 false h g)) p Q
    · exact wp_addP_slice c a1M (a1R true h g) (fun _ => rfl) h_S1x1x1x64x768 pM
        (Rect.unit (k0_off6 c (BitVec.ofNat 32 g.val) (BitVec.ofNat 32 (2 + h.val))) S64x768.size (k0_off6_inb c g h)) (fun _ => rfl) h_S64x768
        shapeCasts_S1x1x1x64x768_S64x768 shapeCasts_S64x768_S1x1x1x64x768 squeezes_S1x1x1x64x768_S64x768 (rawV P c (.a1 true h g)) (opV P c (.a1 true h g)) p Q
  | a2 d h =>
    exact wp_addP_squeeze c a2M (a2R d h) (fun _ => rfl) h_S1x1x64x768 shapeCasts_S1x1x64x768_S64x768 shapeCasts_S64x768_S1x1x64x768 squeezes_S1x1x64x768_S64x768
      a1M (a1R d 6 h.succ) (fun _ => rfl) h_S1x1x1x64x768 squeezes_S1x1x1x64x768_S64x768 (rawV P c (.a2 d h)) (opV P c (.a2 d h)) p Q
  | b1 d h s =>
    cases d
    · exact wp_addP_slice c b1M (b1R false h s) (fun _ => rfl) h_S1x1x128x256 pM
        (Rect.unit (k0_off7 c (BitVec.ofNat 32 (4294967292 + (Fin.rev h).val)) (BitVec.ofNat 32 (128 * s.val))) S128x256.size (k0_off7_inb c (Fin.rev h) s)) (fun _ => rfl) h_S128x256
        shapeCasts_S1x1x128x256_S128x256 shapeCasts_S128x256_S1x1x128x256 squeezes_S1x1x128x256_S128x256 (rawV P c (.b1 false h s)) (opV P c (.b1 false h s)) p Q
    · exact wp_addP_slice c b1M (b1R true h s) (fun _ => rfl) h_S1x1x128x256 pM
        (Rect.unit (k0_off8 c (BitVec.ofNat 32 (2 + h.val)) (BitVec.ofNat 32 (128 * s.val))) S128x256.size (k0_off8_inb c h s)) (fun _ => rfl) h_S128x256
        shapeCasts_S1x1x128x256_S128x256 shapeCasts_S128x256_S1x1x128x256 squeezes_S1x1x128x256_S128x256 (rawV P c (.b1 true h s)) (opV P c (.b1 true h s)) p Q
  | b2 d h =>
    cases d
    · exact wp_addP_squeeze c b2M (b2R false h) (fun _ => rfl) h_S1x1x64x256 shapeCasts_S1x1x64x256_S64x256 shapeCasts_S64x256_S1x1x64x256 squeezes_S1x1x64x256_S64x256
        b1M (Rect.unit (k0_off11 c (BitVec.ofNat 32 (4294967288 + (Fin.rev h).val))) S1x1x64x256.size (k0_off11_inb c (Fin.rev h))) (fun _ => rfl) h_S1x1x64x256
        squeezes_S1x1x64x256_S64x256 (rawV P c (.b2 false h)) (opV P c (.b2 false h)) p Q
    · exact wp_addP_squeeze c b2M (b2R true h) (fun _ => rfl) h_S1x1x64x256 shapeCasts_S1x1x64x256_S64x256 shapeCasts_S64x256_S1x1x64x256 squeezes_S1x1x64x256_S64x256
        b1M (Rect.unit (k0_off12 c (BitVec.ofNat 32 (2 + h.val))) S1x1x64x256.size (k0_off12_inb c h)) (fun _ => rfl) h_S1x1x64x256
        squeezes_S1x1x64x256_S64x256 (rawV P c (.b2 true h)) (opV P c (.b2 true h)) p Q

theorem wp_lastP (b d : Bool) (p : Prog (BodyEff F) PUnit) (Q : PUnit → sProp 𝕄) :
    iprop(factOwn P c (lastL b d) ∗ factOwn P c (lastR b d) ∗ factOwn P c (.res b d))
      ⊢ iprop(((factOwn P c (lastL b d) ∗ factOwn P c (lastR b d) ∗ factOwn P c (.done b d)) -∗ go c p Q) -∗ go c (lastP c b d p) Q) := by
  cases b
  · exact wp_outP c a2M (a2R d 2) (fun _ => rfl) h_S1x1x64x768 shapeCasts_S1x1x64x768_S64x768 squeezes_S1x1x64x768_S64x768
      a1M (a1R d 6 3) (fun _ => rfl) h_S1x1x1x64x768 shapeCasts_S1x1x1x64x768_S64x768 squeezes_S1x1x1x64x768_S64x768
      (oaR d) (fun _ => rfl) h_S64x768 id (rawV P c (.a2 d 2)) (accV P c (.a1 d 6 3)) p Q
  · show iprop(own c (slotM (.b2 d 6)) (rawV P c (.b2 d 6)) ∗ factOwn P c (opFact (.b2 d 6)) ∗ _)
      ⊢ iprop(((own c (slotM (.b2 d 6)) (rawV P c (.b2 d 6)) ∗ factOwn P c (opFact (.b2 d 6)) ∗ _) -∗ _) -∗ _)
    rw [op_eq]
    cases d
    · exact wp_outP c b2M (b2R false 6) (fun _ => rfl) h_S1x1x64x256 shapeCasts_S1x1x64x256_S64x256 squeezes_S1x1x64x256_S64x256
        b1M (Rect.unit (k0_off11 c (BitVec.ofNat 32 (4294967288 + 0))) S1x1x64x256.size (k0_off11_inb c 0)) (fun _ => rfl) h_S1x1x64x256 shapeCasts_S1x1x64x256_S64x256 squeezes_S1x1x64x256_S64x256
        (obR false) (fun _ => rfl) h_S64x256 id (rawV P c (.b2 false 6)) (opV P c (.b2 false 6)) p Q
    · exact wp_outP c b2M (b2R true 6) (fun _ => rfl) h_S1x1x64x256 shapeCasts_S1x1x64x256_S64x256 squeezes_S1x1x64x256_S64x256
        b1M (Rect.unit (k0_off12 c (BitVec.ofNat 32 (2 + 6))) S1x1x64x256.size (k0_off12_inb c 6)) (fun _ => rfl) h_S1x1x64x256 shapeCasts_S1x1x64x256_S64x256 squeezes_S1x1x64x256_S64x256
        (obR true) (fun _ => rfl) h_S64x256 id (rawV P c (.b2 true 6)) (opV P c (.b2 true 6)) p Q

theorem step_ok (e : Ev) (σ σ' : St) (h : step e σ = some σ') (p : Prog (BodyEff F) PUnit) (Q : PUnit → sProp 𝕄) :
    iprop(records P K ∗ levAts L lv ∗ stOwn P c σ) ⊢ iprop((stOwn P c σ' -∗ go c p Q) -∗ go c (evP c e p) Q) := by
  obtain ⟨u, r, i, zr, zs, f⟩ := σ
  cases e with
  | send k =>
    cases u with
    | nil => cases h
    | cons k' u =>
      simp only [step] at h
      split at h
      · rename_i hk
        subst hk
        obtain ⟨f', hf, rfl⟩ := Option.map_eq_some_iff.mp h
        unfold stOwn
        dsimp only
        rw [bigSepL_takes _ hf, bigSepL_singleton, src_eq, bigSepL_cons' k' u, bigSepL_cons' k' i, List.map_cons]
        iintro ⟨#HR, #Hlev, HO, ⟨Hk', Hu⟩, Hr, Hi, Hzr, Hzs, Hs, Hf⟩ Hk
        unfold unsOwn inflOwn
        icases Hk' with ⟨Hts, Htr, Hat, Hslot⟩
        iapply (wp_sendP P K c k' (u.map .inr) p Q) $$ [HO Hts Htr Hslot Hs]
        · isplitr; · iexact HR
          isplitl [Hs]; · iexact Hs
          isplitl [Hslot]; · iexact Hslot
          isplitl [HO]; · iexact HO
          isplitl [Hts] <;> iassumption
        iintro ⟨Hc, HO⟩
        iapply Hk
        isplitl [HO]; · iexact HO
        isplitl [Hu]; · iexact Hu
        isplitl [Hr]; · iexact Hr
        isplitl [Hc Hat Hi]
        · isplitl [Hc Hat]
          · isplitl [Hc] <;> iassumption
          iexact Hi
        isplitl [Hzr]; · iexact Hzr
        isplitl [Hzs] <;> iassumption
      · cases h
  | recv k =>
    simp only [step] at h
    split at h
    · rename_i hk
      cases h
      unfold stOwn
      dsimp only
      rw [bigSepL_erase _ hk.1, bigSepL_cons' k zr, bigSepL_cons' (Fact.raw k) f]
      iintro ⟨#HR, #Hlev, HO, Hu, ⟨Hk', Hr⟩, Hi, Hzr, Hzs, Hf⟩ Hk
      unfold unrOwn
      icases Hk' with ⟨Hc, Hat⟩
      iapply (wp_recvP P K c k (u.map .inr) (fun j hj => by
        obtain ⟨k', hk', rfl⟩ := List.mem_map.mp hj
        exact hk.2 k' hk') p Q) $$ [HO Hc Hat]
      · isplitr; · iexact HR
        isplitr; · iexact Hlev
        isplitl [Hc]; · iexact Hc
        isplitl [HO] <;> iassumption
      iintro ⟨Hp, HO, Hz⟩
      iapply Hk
      isplitl [HO]; · iexact HO
      isplitl [Hu]; · iexact Hu
      isplitl [Hr]; · iexact Hr
      isplitl [Hi]; · iexact Hi
      isplitl [Hz Hzr]
      · isplitl [Hz] <;> iassumption
      isplitl [Hzs]; · iexact Hzs
      isplitl [Hp] <;> iassumption
    · cases h
  | add k =>
    simp only [step] at h
    obtain ⟨f', hf, rfl⟩ := Option.map_eq_some_iff.mp h
    unfold stOwn
    dsimp only
    rw [bigSepL_takes _ hf, bigSepL_cons_cons, bigSepL_singleton, bigSepL_cons', bigSepL_cons']
    iintro ⟨#HR, #Hlev, HO, Hu, Hr, Hi, Hzr, Hzs, Hs, Hf⟩ Hk
    iapply (wp_accP P c k p Q) $$ Hs
    iintro ⟨Ha, Hop⟩
    iapply Hk
    isplitl [HO]; · iexact HO
    isplitl [Hu]; · iexact Hu
    isplitl [Hr]; · iexact Hr
    isplitl [Hi]; · iexact Hi
    isplitl [Hzr]; · iexact Hzr
    isplitl [Hzs]; · iexact Hzs
    isplitl [Ha]; · iexact Ha
    isplitl [Hop] <;> iassumption
  | rows d =>
    simp only [step] at h
    obtain ⟨f', hf, rfl⟩ := Option.map_eq_some_iff.mp h
    unfold stOwn
    dsimp only
    rw [bigSepL_takes _ hf, bigSepL_append, bigSepL_map, bigSepL_map,
      ← bigSep_univ_eq_bigSepL (List.finRange 4) (by decide) (List.nodup_finRange 4), ← bigSep_univ_eq_bigSepL (List.finRange 8) (by decide) (List.nodup_finRange 8)]
    iintro ⟨#HR, #Hlev, HO, Hu, Hr, Hi, Hzr, Hzs, Hs, Hf⟩ Hk
    ihave Hh := (rows_cut P c d) $$ Hs
    iapply Hk
    isplitl [HO]; · iexact HO
    isplitl [Hu]; · iexact Hu
    isplitl [Hr]; · iexact Hr
    isplitl [Hi]; · iexact Hi
    isplitl [Hzr]; · iexact Hzr
    isplitl [Hzs]; · iexact Hzs
    isplitl [Hh] <;> iassumption
  | out b d =>
    simp only [step] at h
    obtain ⟨f', hf, rfl⟩ := Option.map_eq_some_iff.mp h
    unfold stOwn
    dsimp only
    rw [bigSepL_takes _ hf, bigSepL_cons_cons, bigSepL_cons_cons, bigSepL_singleton, bigSepL_cons', bigSepL_cons', bigSepL_cons']
    iintro ⟨#HR, #Hlev, HO, Hu, Hr, Hi, Hzr, Hzs, Hs, Hf⟩ Hk
    iapply (wp_lastP P c b d p Q) $$ Hs
    iintro ⟨Ha, Hb, Hc⟩
    iapply Hk
    isplitl [HO]; · iexact HO
    isplitl [Hu]; · iexact Hu
    isplitl [Hr]; · iexact Hr
    isplitl [Hi]; · iexact Hi
    isplitl [Hzr]; · iexact Hzr
    isplitl [Hzs]; · iexact Hzs
    isplitl [Ha]; · iexact Ha
    isplitl [Hb]; · iexact Hb
    isplitl [Hc] <;> iassumption
  | sent k =>
    simp only [step] at h
    split at h
    · rename_i hk
      obtain ⟨rfl, hk⟩ := hk
      cases h
      unfold stOwn
      dsimp only
      rw [bigSepL_erase _ hk, bigSepL_cons' k zs, bigSepL_cons' (srcFact k) f]
      iintro ⟨#HR, #Hlev, HO, Hu, Hr, ⟨Hk', Hi⟩, Hzr, Hzs, Hf⟩ Hk
      unfold inflOwn
      icases Hk' with ⟨Hc, Hat⟩
      iapply (wp_sentP P K c k p Q) $$ [HO Hc Hat]
      · isplitr; · iexact HR
        isplitl [Hc]; · iexact Hc
        isplitl [HO]; · iexact HO
        iexact Hat
      iintro ⟨Hp, HO, Hz⟩
      iapply Hk
      isplitl [HO]; · iexact HO
      isplitl [Hu]; · iexact Hu
      isplitl [Hr]; · iexact Hr
      isplitl [Hi]; · iexact Hi
      isplitl [Hzr]; · iexact Hzr
      isplitl [Hz Hzs]
      · isplitl [Hz] <;> iassumption
      isplitl [Hp] <;> iassumption
    · cases h

theorem steps_ok (es : List Ev) (σ σ' : St) (h : steps es σ = some σ') (p : Prog (BodyEff F) PUnit) (Q : PUnit → sProp 𝕄) :
    iprop(records P K ∗ levAts L lv ∗ stOwn P c σ) ⊢ iprop((stOwn P c σ' -∗ go c p Q) -∗ go c (runEvs c es p) Q) := by
  induction es generalizing σ with
  | nil =>
    cases h
    iintro ⟨-, -, H⟩ Hk
    iapply Hk; iexact H
  | cons e es ih =>
    obtain ⟨σ₁, h₁, h₂⟩ := Option.bind_eq_some_iff.mp h
    iintro ⟨#HR, #Hlev, H⟩ Hk
    iapply (step_ok P K c e σ σ₁ h₁ (runEvs c es p) Q) $$ [H]
    · isplitr; · iexact HR
      isplitr; · iexact Hlev
      iexact H
    iintro H
    iapply (ih σ₁ h₂) $$ [H]
    · isplitr; · iexact HR
      isplitr; · iexact Hlev
      iexact H
    iexact Hk

/-! ## The kernel's run -/

/-- The copies in the order they are started. -/
def sends : List Copy := evs.filterMap fun | .send k => some k | _ => none

/-- All of the pieces of a kind. -/
def paAll : List Fact := [false, true].flatMap fun d => (List.finRange 4).flatMap fun g => (List.finRange 8).map fun t => .pa d g t
def pbAll : List Fact := [false, true].flatMap fun d => (List.finRange 4).flatMap fun t => (List.finRange 4).map fun s => .pb d t s
def halfAll : List Fact := [false, true].flatMap fun d => (List.finRange 8).map fun t => .half d t
def resAll : List Fact := [.res false false, .res false true, .res true false, .res true true]
def doneAll : List Fact := [.done false false, .done false true, .done true false, .done true true]
/-- How a landing place is left: as landed for the last copy of a half, cut anew for the rows landed last along `z`, added
    to otherwise. -/
def slotLeft : List Fact := Copy.all.filterMap fun
  | .a2 d 2 => some (.raw (.a2 d 2))
  | .b2 d 6 => some (.raw (.b2 d 6))
  | .b1 _ 2 _ => none
  | k => some (.acc k)

/-- The state the events start from, and the pieces held at the end. -/
def σ₀ : St := ⟨sends, Copy.all, [], [], [], paAll ++ (pbAll ++ resAll)⟩

def leftAll : List Fact := paAll ++ (pbAll ++ (halfAll ++ (slotLeft ++ doneAll)))

/-- The events may be run, in their order; at the end every copy has arrived and left, and the pieces are all held. -/
def okEnd : Option St → Bool
  | some ⟨[], [], [], zr, zs, f⟩ => zr.isPerm Copy.all && zs.isPerm Copy.all && f.isPerm leftAll
  | _ => false

theorem evs_ok : okEnd (steps evs σ₀) = true := by decide +kernel
theorem sends_perm : sends.Perm Copy.all := List.isPerm_iff.mp (by decide +kernel)

theorem evs_end : ∃ zr zs f, steps evs σ₀ = some ⟨[], [], [], zr, zs, f⟩ ∧ zr.Perm Copy.all ∧ zs.Perm Copy.all ∧ f.Perm leftAll := by
  have h := evs_ok
  unfold okEnd at h
  split at h
  · rename_i zr zs f e
    rw [Bool.and_eq_true, Bool.and_eq_true] at h
    exact ⟨zr, zs, f, e, List.isPerm_iff.mp h.1.1, List.isPerm_iff.mp h.1.2, List.isPerm_iff.mp h.2⟩
  · cases h

end Cert.SumProof

end
-- ==== Proof.Buffers.lean ====
/-
# Cutting the buffers

Each scratch buffer is the landing places of a kind of copy, or the blocks of the partial product, and the result is its
four quarters: a buffer held whole is its pieces, and pieces held are the buffer whole again.
-/
module

public import proofs.«01_k».proof.Proof.Run
public import Idealize.ShloMosaic.Lib.Ring

@[expose] public section

noncomputable section

namespace Cert.SumProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## In general -/

/-- A place held at some contents. -/
theorem any_eq (c : Dev nD) {s : Shape} (m : Memref sig .tc .vmem s .f32) :
    (iprop(∃ X, own c m X) : sProp 𝕄) = iprop(∃ f : m.view.ty.Contents (Elt F), m.view.loc (c : Thread nD τ) ↦[m.view.set]{fullShare} f) := by
  refine BI.equiv_iff.mp ⟨?_, ?_⟩
  · show iprop(∃ X, own c m X) ⊢ _
    unfold own ownsTc owns
    iintro ⟨%X, %f, -, H⟩
    iexists f; iexact H
  · show _ ⊢ iprop(∃ X, own c m X)
    iintro ⟨%f, H⟩
    iexists _
    iapply (owns_intro (c : Thread nD τ) m fullShare f); iexact H

theorem any_intro (c : Dev nD) {s : Shape} (m : Memref sig .tc .vmem s .f32) (X : FVec F s .f32) : own c m X ⊢ (iprop(∃ X, own c m X) : sProp 𝕄) := by
  iintro H; iexists X; iexact H

/-- A buffer cut: every index is in one piece. -/
theorem cut {ℓ : Loc nD τ sig} {T : Type} [Fintype T] (S : T → Finset (Idx ℓ)) (h₁ : ∀ i, ∃ t, i ∈ S t) (h₂ : ∀ i t t', i ∈ S t → i ∈ S t' → t = t')
    (f : Buf (Elt F) ℓ) : (ℓ ↦{fullShare} f : sProp 𝕄) = bigSep Finset.univ fun t => ℓ ↦[S t]{fullShare} f := by
  rw [← pointsTo_biUnion Finset.univ S (fun t _ t' _ hn => Finset.disjoint_left.mpr fun i hi hi' => hn (h₂ i t t' hi hi'))]
  refine congrArg (fun U => (ℓ ↦[U]{fullShare} f : sProp 𝕄)) ?_
  ext i
  obtain ⟨t, ht⟩ := h₁ i
  exact ⟨fun _ => Finset.mem_biUnion.mpr ⟨t, Finset.mem_univ t, ht⟩, fun _ => Finset.mem_univ i⟩

theorem joined {ℓ : Loc nD τ sig} {T : Type} [Fintype T] [DecidableEq T] (S : T → Finset (Idx ℓ)) (h₁ : ∀ i, ∃ t, i ∈ S t) (h₂ : ∀ i t t', i ∈ S t → i ∈ S t' → t = t')
    (f₀ : Buf (Elt F) ℓ) : bigSep Finset.univ (fun t => iprop(∃ f, ℓ ↦[S t]{fullShare} f)) ⊢ (iprop(∃ f, ℓ ↦{fullShare} f) : sProp 𝕄) :=
  Ring.pointsTo_blocks_join_exists S (fun t t' hn => Finset.disjoint_left.mpr fun i hi hi' => hn (h₂ i t t' hi hi'))
    (by
      ext i
      obtain ⟨t, ht⟩ := h₁ i
      exact ⟨fun _ => Finset.mem_univ i, fun _ => Finset.mem_biUnion.mpr ⟨t, Finset.mem_univ t, ht⟩⟩) f₀

theorem cut_any {ℓ : Loc nD τ sig} {T : Type} [Fintype T] (S : T → Finset (Idx ℓ)) (h₁ : ∀ i, ∃ t, i ∈ S t) (h₂ : ∀ i t t', i ∈ S t → i ∈ S t' → t = t') :
    (iprop(∃ f, ℓ ↦{fullShare} f) : sProp 𝕄) ⊢ bigSep Finset.univ fun t => iprop(∃ f, ℓ ↦[S t]{fullShare} f) := by
  iintro ⟨%f, H⟩
  have h : ∀ t ∈ Finset.univ, (ℓ ↦[S t]{fullShare} f : sProp 𝕄) ⊢ iprop(∃ f, ℓ ↦[S t]{fullShare} f) := fun t _ => by
    iintro H; iexists f; iexact H
  iapply ((Entails.of_eq (cut S h₁ h₂ f)).trans (bigSep_mono h))
  iexact H

theorem bool_of {n : ℕ} (h : n < 2) : ∃ d : Bool, n = d.toNat := by
  have : n = 0 ∨ n = 1 := by omega
  rcases this with rfl | rfl
  · exact ⟨false, rfl⟩
  · exact ⟨true, rfl⟩
theorem toNat_inj {d d' : Bool} (h : d.toNat = d'.toNat) : d = d' := by revert d d'; decide

/-! ## The landing places -/

theorem mem_a1R (d : Bool) (h : Fin 7) (g : Fin 4) (i : S2x7x4x64x768.Idx) :
    i ∈ (a1R d h g).set ↔ (i 0).val = d.toNat ∧ (i 1).val = h.val ∧ (i 2).val = g.val := by
  rw [Rect.mem_set_unit]
  have h3 : (i 3).val < 64 := (i 3).isLt
  have h4 : (i 4).val < 768 := (i 4).isLt
  constructor
  · intro hh
    have h0 : d.toNat ≤ (i 0).val ∧ (i 0).val < d.toNat + 1 := hh 0
    have h1 : h.val ≤ (i 1).val ∧ (i 1).val < h.val + 1 := hh 1
    have h2 : g.val ≤ (i 2).val ∧ (i 2).val < g.val + 1 := hh 2
    omega
  · rintro ⟨h0, h1, h2⟩ a
    match a with
    | 0 => show d.toNat ≤ (i 0).val ∧ (i 0).val < d.toNat + 1; omega
    | 1 => show h.val ≤ (i 1).val ∧ (i 1).val < h.val + 1; omega
    | 2 => show g.val ≤ (i 2).val ∧ (i 2).val < g.val + 1; omega
    | 3 => show 0 ≤ (i 3).val ∧ (i 3).val < 0 + 64; omega
    | 4 => show 0 ≤ (i 4).val ∧ (i 4).val < 0 + 768; omega
theorem mem_a2R (d : Bool) (h : Fin 3) (i : S2x3x64x768.Idx) : i ∈ (a2R d h).set ↔ (i 0).val = d.toNat ∧ (i 1).val = h.val := by
  rw [Rect.mem_set_unit]
  have h2 : (i 2).val < 64 := (i 2).isLt
  have h3 : (i 3).val < 768 := (i 3).isLt
  constructor
  · intro hh
    have h0 : d.toNat ≤ (i 0).val ∧ (i 0).val < d.toNat + 1 := hh 0
    have h1 : h.val ≤ (i 1).val ∧ (i 1).val < h.val + 1 := hh 1
    omega
  · rintro ⟨h0, h1⟩ a
    match a with
    | 0 => show d.toNat ≤ (i 0).val ∧ (i 0).val < d.toNat + 1; omega
    | 1 => show h.val ≤ (i 1).val ∧ (i 1).val < h.val + 1; omega
    | 2 => show 0 ≤ (i 2).val ∧ (i 2).val < 0 + 64; omega
    | 3 => show 0 ≤ (i 3).val ∧ (i 3).val < 0 + 768; omega
theorem mem_b1R (d : Bool) (h : Fin 3) (s : Fin 4) (i : S2x3x512x256.Idx) :
    i ∈ (b1R d h s).set ↔ (i 0).val = d.toNat ∧ (i 1).val = h.val ∧ (i 2).val / 128 = s.val := by
  rw [Rect.mem_set_unit]
  have h3 : (i 3).val < 256 := (i 3).isLt
  constructor
  · intro hh
    have h0 : d.toNat ≤ (i 0).val ∧ (i 0).val < d.toNat + 1 := hh 0
    have h1 : h.val ≤ (i 1).val ∧ (i 1).val < h.val + 1 := hh 1
    have h2 : 128 * s.val ≤ (i 2).val ∧ (i 2).val < 128 * s.val + 128 := hh 2
    omega
  · rintro ⟨h0, h1, h2⟩ a
    match a with
    | 0 => show d.toNat ≤ (i 0).val ∧ (i 0).val < d.toNat + 1; omega
    | 1 => show h.val ≤ (i 1).val ∧ (i 1).val < h.val + 1; omega
    | 2 => show 128 * s.val ≤ (i 2).val ∧ (i 2).val < 128 * s.val + 128; omega
    | 3 => show 0 ≤ (i 3).val ∧ (i 3).val < 0 + 256; omega
theorem mem_b2R (d : Bool) (h : Fin 7) (i : S2x7x64x256.Idx) : i ∈ (b2R d h).set ↔ (i 0).val = d.toNat ∧ (i 1).val = h.val := by
  rw [Rect.mem_set_unit]
  have h2 : (i 2).val < 64 := (i 2).isLt
  have h3 : (i 3).val < 256 := (i 3).isLt
  constructor
  · intro hh
    have h0 : d.toNat ≤ (i 0).val ∧ (i 0).val < d.toNat + 1 := hh 0
    have h1 : h.val ≤ (i 1).val ∧ (i 1).val < h.val + 1 := hh 1
    omega
  · rintro ⟨h0, h1⟩ a
    match a with
    | 0 => show d.toNat ≤ (i 0).val ∧ (i 0).val < d.toNat + 1; omega
    | 1 => show h.val ≤ (i 1).val ∧ (i 1).val < h.val + 1; omega
    | 2 => show 0 ≤ (i 2).val ∧ (i 2).val < 0 + 64; omega
    | 3 => show 0 ≤ (i 3).val ∧ (i 3).val < 0 + 256; omega

abbrev setA1 (t : Bool × Fin 7 × Fin 4) : Finset S2x7x4x64x768.Idx := (a1R t.1 t.2.1 t.2.2).set
abbrev setA2 (t : Bool × Fin 3) : Finset S2x3x64x768.Idx := (a2R t.1 t.2).set
abbrev setB1 (t : Bool × Fin 3 × Fin 4) : Finset S2x3x512x256.Idx := (b1R t.1 t.2.1 t.2.2).set
abbrev setB2 (t : Bool × Fin 7) : Finset S2x7x64x256.Idx := (b2R t.1 t.2).set

theorem coverA1 (i : S2x7x4x64x768.Idx) : ∃ t, i ∈ setA1 t := by
  obtain ⟨d, hd⟩ := bool_of (show (i 0).val < 2 from (i 0).isLt)
  exact ⟨(d, ⟨(i 1).val, (i 1).isLt⟩, ⟨(i 2).val, (i 2).isLt⟩), (mem_a1R _ _ _ i).mpr ⟨hd, rfl, rfl⟩⟩
theorem oneA1 (i : S2x7x4x64x768.Idx) (t t' : Bool × Fin 7 × Fin 4) (h : i ∈ setA1 t) (h' : i ∈ setA1 t') : t = t' := by
  obtain ⟨a, b, e⟩ := (mem_a1R _ _ _ i).mp h
  obtain ⟨a', b', e'⟩ := (mem_a1R _ _ _ i).mp h'
  exact Prod.ext (toNat_inj (a.symm.trans a')) (Prod.ext (Fin.ext (b.symm.trans b')) (Fin.ext (e.symm.trans e')))
theorem coverA2 (i : S2x3x64x768.Idx) : ∃ t, i ∈ setA2 t := by
  obtain ⟨d, hd⟩ := bool_of (show (i 0).val < 2 from (i 0).isLt)
  exact ⟨(d, ⟨(i 1).val, (i 1).isLt⟩), (mem_a2R _ _ i).mpr ⟨hd, rfl⟩⟩
theorem oneA2 (i : S2x3x64x768.Idx) (t t' : Bool × Fin 3) (h : i ∈ setA2 t) (h' : i ∈ setA2 t') : t = t' := by
  obtain ⟨a, b⟩ := (mem_a2R _ _ i).mp h
  obtain ⟨a', b'⟩ := (mem_a2R _ _ i).mp h'
  exact Prod.ext (toNat_inj (a.symm.trans a')) (Fin.ext (b.symm.trans b'))
theorem coverB1 (i : S2x3x512x256.Idx) : ∃ t, i ∈ setB1 t := by
  obtain ⟨d, hd⟩ := bool_of (show (i 0).val < 2 from (i 0).isLt)
  have h : (i 2).val < 512 := (i 2).isLt
  exact ⟨(d, ⟨(i 1).val, (i 1).isLt⟩, ⟨(i 2).val / 128, by omega⟩), (mem_b1R _ _ _ i).mpr ⟨hd, rfl, rfl⟩⟩
theorem oneB1 (i : S2x3x512x256.Idx) (t t' : Bool × Fin 3 × Fin 4) (h : i ∈ setB1 t) (h' : i ∈ setB1 t') : t = t' := by
  obtain ⟨a, b, e⟩ := (mem_b1R _ _ _ i).mp h
  obtain ⟨a', b', e'⟩ := (mem_b1R _ _ _ i).mp h'
  exact Prod.ext (toNat_inj (a.symm.trans a')) (Prod.ext (Fin.ext (b.symm.trans b')) (Fin.ext (e.symm.trans e')))
theorem coverB2 (i : S2x7x64x256.Idx) : ∃ t, i ∈ setB2 t := by
  obtain ⟨d, hd⟩ := bool_of (show (i 0).val < 2 from (i 0).isLt)
  exact ⟨(d, ⟨(i 1).val, (i 1).isLt⟩), (mem_b2R _ _ i).mpr ⟨hd, rfl⟩⟩
theorem oneB2 (i : S2x7x64x256.Idx) (t t' : Bool × Fin 7) (h : i ∈ setB2 t) (h' : i ∈ setB2 t') : t = t' := by
  obtain ⟨a, b⟩ := (mem_b2R _ _ i).mp h
  obtain ⟨a', b'⟩ := (mem_b2R _ _ i).mp h'
  exact Prod.ext (toNat_inj (a.symm.trans a')) (Fin.ext (b.symm.trans b'))

/-- A landing place at some contents is its indices of its buffer at some contents. -/
theorem slot_a1 (c : Dev nD) (d : Bool) (h : Fin 7) (g : Fin 4) :
    (slotAny (F := F) c (.a1 d h g) : sProp 𝕄) = iprop(∃ f, ((c : Thread nD τ).loc cc0_scratch1) ↦[setA1 (d, h, g)]{fullShare} f) :=
  (any_eq c (slotM (.a1 d h g))).trans (congrArg (fun S : Finset S2x7x4x64x768.Idx => (iprop(∃ f, ((c : Thread nD τ).loc cc0_scratch1) ↦[S]{fullShare} f) : sProp 𝕄))
    ((View.set_reshape (a1M.view.slice (a1R d h g)) _).trans (View.set_slice_whole cc0_scratch1 (a1R d h g))))
theorem slot_a2 (c : Dev nD) (d : Bool) (h : Fin 3) :
    (slotAny (F := F) c (.a2 d h) : sProp 𝕄) = iprop(∃ f, ((c : Thread nD τ).loc cc0_scratch2) ↦[setA2 (d, h)]{fullShare} f) :=
  (any_eq c (slotM (.a2 d h))).trans (congrArg (fun S : Finset S2x3x64x768.Idx => (iprop(∃ f, ((c : Thread nD τ).loc cc0_scratch2) ↦[S]{fullShare} f) : sProp 𝕄))
    ((View.set_reshape (a2M.view.slice (a2R d h)) _).trans (View.set_slice_whole cc0_scratch2 (a2R d h))))
theorem slot_b1 (c : Dev nD) (d : Bool) (h : Fin 3) (s : Fin 4) :
    (slotAny (F := F) c (.b1 d h s) : sProp 𝕄) = iprop(∃ f, ((c : Thread nD τ).loc cc0_scratch3) ↦[setB1 (d, h, s)]{fullShare} f) :=
  (any_eq c (slotM (.b1 d h s))).trans (congrArg (fun S : Finset S2x3x512x256.Idx => (iprop(∃ f, ((c : Thread nD τ).loc cc0_scratch3) ↦[S]{fullShare} f) : sProp 𝕄))
    ((View.set_reshape (b1M.view.slice (b1R d h s)) _).trans (View.set_slice_whole cc0_scratch3 (b1R d h s))))
theorem slot_b2 (c : Dev nD) (d : Bool) (h : Fin 7) :
    (slotAny (F := F) c (.b2 d h) : sProp 𝕄) = iprop(∃ f, ((c : Thread nD τ).loc cc0_scratch4) ↦[setB2 (d, h)]{fullShare} f) :=
  (any_eq c (slotM (.b2 d h))).trans (congrArg (fun S : Finset S2x7x64x256.Idx => (iprop(∃ f, ((c : Thread nD τ).loc cc0_scratch4) ↦[S]{fullShare} f) : sProp 𝕄))
    ((View.set_reshape (b2M.view.slice (b2R d h)) _).trans (View.set_slice_whole cc0_scratch4 (b2R d h))))
theorem half_any (c : Dev nD) (d : Bool) (t : ℕ) :
    (iprop(∃ X, own c (halfM c d t) X) : sProp 𝕄) = iprop(∃ f, ((c : Thread nD τ).loc cc0_scratch3) ↦[((halfR c d t).set : Finset S2x3x512x256.Idx)]{fullShare} f) :=
  (any_eq c (halfM c d t)).trans (congrArg (fun S : Finset S2x3x512x256.Idx => (iprop(∃ f, ((c : Thread nD τ).loc cc0_scratch3) ↦[S]{fullShare} f) : sProp 𝕄))
    ((View.set_reshape (b1M.view.slice (halfR c d t)) _).trans (View.set_slice_whole cc0_scratch3 (halfR c d t))))

/-- A buffer of `c`, whole, at some contents. -/
def bufAny (c : Dev nD) (b : Ref sig .tc) : sProp 𝕄 := iprop(∃ f : Buf (Elt F) ((c : Thread nD τ).loc b), ((c : Thread nD τ).loc b) ↦{fullShare} f)

/-! ## The lists of the kinds -/

def a1L : List (Bool × Fin 7 × Fin 4) := [false, true].flatMap fun d => (List.finRange 7).flatMap fun h => (List.finRange 4).map fun g => (d, h, g)
def a2L : List (Bool × Fin 3) := [false, true].flatMap fun d => (List.finRange 3).map fun h => (d, h)
def b1L : List (Bool × Fin 3 × Fin 4) := [false, true].flatMap fun d => (List.finRange 3).flatMap fun h => (List.finRange 4).map fun g => (d, h, g)
def b1L' : List (Bool × Fin 2 × Fin 4) := [false, true].flatMap fun d => (List.finRange 2).flatMap fun h => (List.finRange 4).map fun g => (d, h, g)
def b2L : List (Bool × Fin 7) := [false, true].flatMap fun d => (List.finRange 7).map fun h => (d, h)
def paL : List (Bool × Fin 4 × Fin 8) := [false, true].flatMap fun d => (List.finRange 4).flatMap fun g => (List.finRange 8).map fun t => (d, g, t)
def pbL : List (Bool × Fin 4 × Fin 4) := [false, true].flatMap fun d => (List.finRange 4).flatMap fun t => (List.finRange 4).map fun s => (d, t, s)
def halfL : List (Bool × Fin 8) := [false, true].flatMap fun d => (List.finRange 8).map fun t => (d, t)

theorem all_kinds : Copy.all = (a1L.map fun t => .a1 t.1 t.2.1 t.2.2) ++ ((a2L.map fun t => .a2 t.1 t.2) ++ ((b1L.map fun t => .b1 t.1 t.2.1 t.2.2) ++ (b2L.map fun t => .b2 t.1 t.2))) := by
  decide +kernel

/-- How a landing place is left. -/
def leftOf : Copy → Fact
  | .a2 d 2 => .raw (.a2 d 2)
  | .b2 d 6 => .raw (.b2 d 6)
  | k => .acc k

theorem left_kinds : slotLeft = (a1L.map fun t => leftOf (.a1 t.1 t.2.1 t.2.2)) ++ ((a2L.map fun t => leftOf (.a2 t.1 t.2))
    ++ ((b1L'.map fun t => leftOf (.b1 t.1 t.2.1.castSucc t.2.2)) ++ (b2L.map fun t => leftOf (.b2 t.1 t.2)))) := by
  decide +kernel

variable {M : Type} [URA M]

theorem sep_a1L (Φ : Bool × Fin 7 × Fin 4 → sProp M) : bigSepL a1L Φ = bigSep Finset.univ Φ := (bigSep_univ_eq_bigSepL a1L (by decide +kernel) (by decide +kernel) Φ).symm
theorem sep_a2L (Φ : Bool × Fin 3 → sProp M) : bigSepL a2L Φ = bigSep Finset.univ Φ := (bigSep_univ_eq_bigSepL a2L (by decide +kernel) (by decide +kernel) Φ).symm
theorem sep_b1L (Φ : Bool × Fin 3 × Fin 4 → sProp M) : bigSepL b1L Φ = bigSep Finset.univ Φ := (bigSep_univ_eq_bigSepL b1L (by decide +kernel) (by decide +kernel) Φ).symm
theorem sep_b1L' (Φ : Bool × Fin 2 × Fin 4 → sProp M) : bigSepL b1L' Φ = bigSep Finset.univ Φ := (bigSep_univ_eq_bigSepL b1L' (by decide +kernel) (by decide +kernel) Φ).symm
theorem sep_b2L (Φ : Bool × Fin 7 → sProp M) : bigSepL b2L Φ = bigSep Finset.univ Φ := (bigSep_univ_eq_bigSepL b2L (by decide +kernel) (by decide +kernel) Φ).symm
theorem sep_paL (Φ : Bool × Fin 4 × Fin 8 → sProp M) : bigSepL paL Φ = bigSep Finset.univ Φ := (bigSep_univ_eq_bigSepL paL (by decide +kernel) (by decide +kernel) Φ).symm
theorem sep_pbL (Φ : Bool × Fin 4 × Fin 4 → sProp M) : bigSepL pbL Φ = bigSep Finset.univ Φ := (bigSep_univ_eq_bigSepL pbL (by decide +kernel) (by decide +kernel) Φ).symm
theorem sep_halfL (Φ : Bool × Fin 8 → sProp M) : bigSepL halfL Φ = bigSep Finset.univ Φ := (bigSep_univ_eq_bigSepL halfL (by decide +kernel) (by decide +kernel) Φ).symm

theorem sep_all (Φ : Copy → sProp M) : bigSepL Copy.all Φ = bigSep Finset.univ Φ :=
  (bigSep_univ_eq_bigSepL Copy.all (by ext k; simp [Copy.mem_all]) Copy.all_nodup Φ).symm
theorem sep_sends (Φ : Copy → sProp M) : bigSepL sends Φ = bigSep Finset.univ Φ :=
  (bigSep_univ_eq_bigSepL sends (by ext k; simp [sends_perm.mem_iff, Copy.mem_all]) (sends_perm.nodup_iff.mpr Copy.all_nodup) Φ).symm

/-! ## The four buffers of landing places -/

theorem slots_cut (c : Dev nD) :
    iprop(bufAny (F := F) c cc0_scratch1 ∗ bufAny (F := F) c cc0_scratch2 ∗ bufAny (F := F) c cc0_scratch3 ∗ bufAny (F := F) c cc0_scratch4)
      ⊢ bigSep Finset.univ fun k => slotAny (F := F) c k := by
  rw [← sep_all, all_kinds, bigSepL_append, bigSepL_append, bigSepL_append, bigSepL_map, bigSepL_map, bigSepL_map, bigSepL_map, sep_a1L, sep_a2L, sep_b1L, sep_b2L]
  simp only [slot_a1, slot_a2, slot_b1, slot_b2]
  unfold bufAny
  iintro ⟨H1, H2, H3, H4⟩
  isplitl [H1]; · iapply (cut_any (ℓ := (c : Thread nD τ).loc cc0_scratch1) setA1 coverA1 oneA1); iexact H1
  isplitl [H2]; · iapply (cut_any (ℓ := (c : Thread nD τ).loc cc0_scratch2) setA2 coverA2 oneA2); iexact H2
  isplitl [H3]; · iapply (cut_any (ℓ := (c : Thread nD τ).loc cc0_scratch3) setB1 coverB1 oneB1); iexact H3
  iapply (cut_any (ℓ := (c : Thread nD τ).loc cc0_scratch4) setB2 coverB2 oneB2); iexact H4

/-! ### And back -/

variable (P : Dev nD → FVec F S2048x2048 .f32)

theorem left_any (c : Dev nD) (k : Copy) : factOwn P c (leftOf k) ⊢ slotAny (F := F) c k := by
  unfold leftOf
  split
  · exact any_intro c (slotM (.a2 _ 2)) _
  · exact any_intro c (slotM (.b2 _ 6)) _
  · exact any_intro c (slotM _) _

/-- The rows landed along `z`: the first two steps' landing places, and the last one's cut anew. -/
abbrev setB1' (c : Dev nD) : (Bool × Fin 2 × Fin 4) ⊕ (Bool × Fin 8) → Finset S2x3x512x256.Idx
  | .inl t => (b1R t.1 t.2.1.castSucc t.2.2).set
  | .inr t => (halfR c t.1 (t.2.val + 1)).set

theorem coverB1' (c : Dev nD) (i : S2x3x512x256.Idx) : ∃ t, i ∈ setB1' c t := by
  obtain ⟨d, hd⟩ := bool_of (show (i 0).val < 2 from (i 0).isLt)
  have h2 : (i 2).val < 512 := (i 2).isLt
  have h1 : (i 1).val < 3 := (i 1).isLt
  by_cases h : (i 1).val = 2
  · obtain ⟨t, ht⟩ := rrel_surj c d ⟨(i 2).val / 64, by omega⟩
    exact ⟨.inr (d, t), (mem_half c d _ i).mpr ⟨hd, h, ht.symm⟩⟩
  · exact ⟨.inl (d, ⟨(i 1).val, by omega⟩, ⟨(i 2).val / 128, by omega⟩), (mem_b1R _ _ _ i).mpr ⟨hd, rfl, rfl⟩⟩
theorem oneB1' (c : Dev nD) (i : S2x3x512x256.Idx) (t t' : (Bool × Fin 2 × Fin 4) ⊕ (Bool × Fin 8)) (h : i ∈ setB1' c t) (h' : i ∈ setB1' c t') : t = t' := by
  rcases t with ⟨d, h₁, s⟩ | ⟨d, t⟩ <;> rcases t' with ⟨d', h₁', s'⟩ | ⟨d', t'⟩
  · obtain ⟨a, b, e⟩ := (mem_b1R _ _ _ i).mp h
    obtain ⟨a', b', e'⟩ := (mem_b1R _ _ _ i).mp h'
    exact congrArg _ (Prod.ext (toNat_inj (a.symm.trans a')) (Prod.ext (Fin.ext (b.symm.trans b')) (Fin.ext (e.symm.trans e'))))
  · have b : (i 1).val = h₁.val := ((mem_b1R _ _ _ i).mp h).2.1
    have b' := ((mem_half c _ _ i).mp h').2.1
    have := h₁.isLt; omega
  · have b : (i 1).val = h₁'.val := ((mem_b1R _ _ _ i).mp h').2.1
    have b' := ((mem_half c _ _ i).mp h).2.1
    have := h₁'.isLt; omega
  · obtain ⟨a, b, e⟩ := (mem_half c _ _ i).mp h
    obtain ⟨a', b', e'⟩ := (mem_half c _ _ i).mp h'
    have hd : d = d' := toNat_inj (a.symm.trans a')
    subst hd
    exact congrArg (fun t => Sum.inr (d, t)) (rrel_inj c d t t' (e.symm.trans e'))

theorem half_kinds : halfAll = halfL.map fun t => .half t.1 t.2 := by decide +kernel
theorem pa_kinds : paAll = paL.map fun t => .pa t.1 t.2.1 t.2.2 := by decide +kernel
theorem pb_kinds : pbAll = pbL.map fun t => .pb t.1 t.2.1 t.2.2 := by decide +kernel

/-- Contents of any buffer of 32-bit floats. -/
def someF {I : Type} : I → F .f32 := fun _ => Scalar.ofBits .f32 0#32

theorem slots_join (c : Dev nD) :
    iprop(bigSepL halfAll (factOwn P c) ∗ bigSepL slotLeft (factOwn P c))
      ⊢ iprop(bufAny (F := F) c cc0_scratch1 ∗ bufAny (F := F) c cc0_scratch2 ∗ bufAny (F := F) c cc0_scratch3 ∗ bufAny (F := F) c cc0_scratch4) := by
  rw [half_kinds, left_kinds, bigSepL_append, bigSepL_append, bigSepL_append, bigSepL_map, bigSepL_map, bigSepL_map, bigSepL_map, bigSepL_map,
    sep_a1L, sep_a2L, sep_b1L', sep_b2L, sep_halfL]
  have ha1 : ∀ t ∈ (Finset.univ : Finset (Bool × Fin 7 × Fin 4)), factOwn P c (leftOf (.a1 t.1 t.2.1 t.2.2)) ⊢ (iprop(∃ f, ((c : Thread nD τ).loc cc0_scratch1) ↦[setA1 t]{fullShare} f) : sProp 𝕄) :=
    fun t _ => (left_any P c _).trans (Entails.of_eq (slot_a1 c _ _ _))
  have ha2 : ∀ t ∈ (Finset.univ : Finset (Bool × Fin 3)), factOwn P c (leftOf (.a2 t.1 t.2)) ⊢ (iprop(∃ f, ((c : Thread nD τ).loc cc0_scratch2) ↦[setA2 t]{fullShare} f) : sProp 𝕄) :=
    fun t _ => (left_any P c _).trans (Entails.of_eq (slot_a2 c _ _))
  have hb1 : ∀ t ∈ (Finset.univ : Finset (Bool × Fin 2 × Fin 4)), factOwn P c (leftOf (.b1 t.1 t.2.1.castSucc t.2.2)) ⊢ (iprop(∃ f, ((c : Thread nD τ).loc cc0_scratch3) ↦[setB1' c (.inl t)]{fullShare} f) : sProp 𝕄) :=
    fun t _ => (left_any P c _).trans (Entails.of_eq (slot_b1 c _ _ _))
  have hh : ∀ t ∈ (Finset.univ : Finset (Bool × Fin 8)), factOwn P c (.half t.1 t.2) ⊢ (iprop(∃ f, ((c : Thread nD τ).loc cc0_scratch3) ↦[setB1' c (.inr t)]{fullShare} f) : sProp 𝕄) :=
    fun t _ => (any_intro c (halfM c t.1 (t.2.val + 1)) _).trans (Entails.of_eq (half_any c t.1 (t.2.val + 1)))
  have hb2 : ∀ t ∈ (Finset.univ : Finset (Bool × Fin 7)), factOwn P c (leftOf (.b2 t.1 t.2)) ⊢ (iprop(∃ f, ((c : Thread nD τ).loc cc0_scratch4) ↦[setB2 t]{fullShare} f) : sProp 𝕄) :=
    fun t _ => (left_any P c _).trans (Entails.of_eq (slot_b2 c _ _))
  have hB1 : iprop((bigSep Finset.univ fun t : Bool × Fin 2 × Fin 4 => factOwn P c (leftOf (.b1 t.1 t.2.1.castSucc t.2.2)))
      ∗ bigSep Finset.univ fun t : Bool × Fin 8 => factOwn P c (.half t.1 t.2)) ⊢ bufAny (F := F) c cc0_scratch3 :=
    (BI.sep_mono (bigSep_mono hb1) (bigSep_mono hh)).trans
      ((Entails.of_eq (bigSep_univ_sum (fun t => (iprop(∃ f, ((c : Thread nD τ).loc cc0_scratch3) ↦[setB1' c t]{fullShare} f) : sProp 𝕄))).symm).trans
        (joined (ℓ := (c : Thread nD τ).loc cc0_scratch3) (setB1' c) (coverB1' c) (oneB1' c) someF))
  have hA1 : (bigSep Finset.univ fun t : Bool × Fin 7 × Fin 4 => factOwn P c (leftOf (.a1 t.1 t.2.1 t.2.2))) ⊢ bufAny (F := F) c cc0_scratch1 :=
    (bigSep_mono ha1).trans (joined (ℓ := (c : Thread nD τ).loc cc0_scratch1) setA1 coverA1 oneA1 someF)
  have hA2 : (bigSep Finset.univ fun t : Bool × Fin 3 => factOwn P c (leftOf (.a2 t.1 t.2))) ⊢ bufAny (F := F) c cc0_scratch2 :=
    (bigSep_mono ha2).trans (joined (ℓ := (c : Thread nD τ).loc cc0_scratch2) setA2 coverA2 oneA2 someF)
  have hB2 : (bigSep Finset.univ fun t : Bool × Fin 7 => factOwn P c (leftOf (.b2 t.1 t.2))) ⊢ bufAny (F := F) c cc0_scratch4 :=
    (bigSep_mono hb2).trans (joined (ℓ := (c : Thread nD τ).loc cc0_scratch4) setB2 coverB2 oneB2 someF)
  iintro ⟨Hh, H1, H2, H3, H4⟩
  isplitl [H1]; · iapply hA1; iexact H1
  isplitl [H2]; · iapply hA2; iexact H2
  isplitl [H3 Hh]
  · iapply hB1
    isplitl [H3]
    · iexact H3
    · iexact Hh
  iapply hB2; iexact H4

/-! ## The partial product -/

theorem zrel_inj (c : Dev nD) (d : Bool) (t t' : Fin 4) (h : zrel c d (t.val + 1) = zrel c d (t'.val + 1)) : t = t' := by
  revert c d t t'; decide +kernel
theorem zrel_surj (c : Dev nD) (d : Bool) (b : Fin 4) : ∃ t : Fin 4, zrel c d (t.val + 1) = b.val := by
  revert c d b; decide +kernel

theorem mem_paR (c : Dev nD) (d : Bool) (g t : ℕ) (i : S2048x2048.Idx) :
    i ∈ (paR c d g t).set ↔ (i 0).val / 64 = blk c d g t ∧ (i 1).val / 768 = d.toNat := by
  have hd : d.toNat ≤ 1 := Bool.toNat_le d
  rw [Rect.mem_set_unit]
  constructor
  · intro hh
    have h0 : 64 * blk c d g t ≤ (i 0).val ∧ (i 0).val < 64 * blk c d g t + 64 := hh 0
    have h1 : 768 * d.toNat ≤ (i 1).val ∧ (i 1).val < 768 * d.toNat + 768 := hh 1
    omega
  · rintro ⟨h0, h1⟩ a
    match a with
    | 0 => show 64 * blk c d g t ≤ (i 0).val ∧ (i 0).val < 64 * blk c d g t + 64; omega
    | 1 => show 768 * d.toNat ≤ (i 1).val ∧ (i 1).val < 768 * d.toNat + 768; omega
theorem mem_pbR (c : Dev nD) (d : Bool) (t : ℕ) (s : Fin 4) (i : S2048x2048.Idx) :
    i ∈ (pbR c d t s).set ↔ (i 0).val / 128 = 4 * zrel c d t + s.val ∧ (i 1).val / 256 = 6 + d.toNat := by
  rw [Rect.mem_set_unit]
  constructor
  · intro hh
    have h0 : 512 * zrel c d t + 128 * s.val ≤ (i 0).val ∧ (i 0).val < 512 * zrel c d t + 128 * s.val + 128 := hh 0
    have h1 : 1536 + 256 * d.toNat ≤ (i 1).val ∧ (i 1).val < 1536 + 256 * d.toNat + 256 := hh 1
    omega
  · rintro ⟨h0, h1⟩ a
    match a with
    | 0 => show 512 * zrel c d t + 128 * s.val ≤ (i 0).val ∧ (i 0).val < 512 * zrel c d t + 128 * s.val + 128; omega
    | 1 => show 1536 + 256 * d.toNat ≤ (i 1).val ∧ (i 1).val < 1536 + 256 * d.toNat + 256; omega

abbrev setP (c : Dev nD) : (Bool × Fin 4 × Fin 8) ⊕ (Bool × Fin 4 × Fin 4) → Finset S2048x2048.Idx
  | .inl t => (paR c t.1 t.2.1 (t.2.2.val + 1)).set
  | .inr t => (pbR c t.1 (t.2.1.val + 1) t.2.2).set

theorem coverP (c : Dev nD) (i : S2048x2048.Idx) : ∃ t, i ∈ setP c t := by
  have h0 : (i 0).val < 2048 := (i 0).isLt
  have h1 : (i 1).val < 2048 := (i 1).isLt
  by_cases h : (i 1).val < 1536
  · obtain ⟨d, hd⟩ := bool_of (show (i 1).val / 768 < 2 by omega)
    obtain ⟨g, hg⟩ := zrel_surj c d ⟨(i 0).val / 512, by omega⟩
    obtain ⟨t, ht⟩ := rrel_surj c d ⟨(i 0).val / 64 % 8, by omega⟩
    refine ⟨.inl (d, g, t), (mem_paR c d _ _ i).mpr ⟨?_, hd⟩⟩
    unfold blk
    rw [Nat.add_comm 1, hg, ht]
    show _ = 8 * ((i 0).val / 512) + (i 0).val / 64 % 8
    omega
  · obtain ⟨d, hd⟩ := bool_of (show (i 1).val / 256 - 6 < 2 by omega)
    obtain ⟨t, ht⟩ := zrel_surj c d ⟨(i 0).val / 512, by omega⟩
    refine ⟨.inr (d, t, ⟨(i 0).val / 128 % 4, by omega⟩), (mem_pbR c d _ _ i).mpr ⟨?_, by omega⟩⟩
    rw [ht]
    show _ = 4 * ((i 0).val / 512) + (i 0).val / 128 % 4
    omega
theorem oneP (c : Dev nD) (i : S2048x2048.Idx) (t t' : (Bool × Fin 4 × Fin 8) ⊕ (Bool × Fin 4 × Fin 4)) (h : i ∈ setP c t) (h' : i ∈ setP c t') : t = t' := by
  rcases t with ⟨d, g, t⟩ | ⟨d, t, s⟩ <;> rcases t' with ⟨d', g', t'⟩ | ⟨d', t', s'⟩
  · obtain ⟨a, b⟩ := (mem_paR c d _ _ i).mp h
    obtain ⟨a', b'⟩ := (mem_paR c d' _ _ i).mp h'
    have hd : d = d' := toNat_inj (b.symm.trans b')
    subst hd
    replace a : (i 0).val / 64 = 8 * zrel c d (1 + g.val) + rrel c d (t.val + 1) := a
    replace a' : (i 0).val / 64 = 8 * zrel c d (1 + g'.val) + rrel c d (t'.val + 1) := a'
    have z := zrel_lt c d (1 + g.val)
    have z' := zrel_lt c d (1 + g'.val)
    have r := rrel_lt c d (t.val + 1)
    have r' := rrel_lt c d (t'.val + 1)
    rw [show g = g' from zrel_inj c d g g' (by rw [Nat.add_comm g.val, Nat.add_comm g'.val]; omega),
      show t = t' from rrel_inj c d t t' (by omega)]
  · have b := ((mem_paR c d _ _ i).mp h).2
    have b' := ((mem_pbR c d' _ _ i).mp h').2
    have := Bool.toNat_le d; omega
  · have b := ((mem_paR c d' _ _ i).mp h').2
    have b' := ((mem_pbR c d _ _ i).mp h).2
    have := Bool.toNat_le d'; omega
  · obtain ⟨a, b⟩ := (mem_pbR c d _ _ i).mp h
    obtain ⟨a', b'⟩ := (mem_pbR c d' _ _ i).mp h'
    have hd : d = d' := toNat_inj (by dsimp only at b b'; omega)
    subst hd
    replace a : (i 0).val / 128 = 4 * zrel c d (t.val + 1) + s.val := a
    replace a' : (i 0).val / 128 = 4 * zrel c d (t'.val + 1) + s'.val := a'
    have := s.isLt
    have := s'.isLt
    rw [show t = t' from zrel_inj c d t t' (by omega), show s = s' from Fin.ext (by omega)]

/-- Some of the partial product, at given contents; the same of the result. -/
def prodAt (c : Dev nD) (S : Finset S2048x2048.Idx) (X : S2048x2048.Idx → F .f32) : sProp 𝕄 := (((c : Thread nD τ).loc cc0_scratch0) ↦[S]{fullShare} X)
def outAt (c : Dev nD) (S : Finset S64x2048.Idx) (X : S64x2048.Idx → F .f32) : sProp 𝕄 := (((c : Thread nD τ).loc cc0_stg2_0) ↦[S]{fullShare} X)

theorem pa_at (c : Dev nD) (d : Bool) (g t : ℕ) : (own c (paM c d g t) (paV P c d g t) : sProp 𝕄) = prodAt c (paR c d g t).set (P c) := by
  have h := own_read c (paM c d g t) (P c)
  have e : (paM c d g t).view.set = (paR c d g t).set := View.set_slice_whole cc0_scratch0 (paR c d g t)
  rw [e] at h
  exact h
theorem pb_at (c : Dev nD) (d : Bool) (t : ℕ) (s : Fin 4) : (own c (pbM c d t s) (pbV P c d t s) : sProp 𝕄) = prodAt c (pbR c d t s).set (P c) := by
  have h := own_read c (pbM c d t s) (P c)
  have e : (pbM c d t s).view.set = (pbR c d t s).set := View.set_slice_whole cc0_scratch0 (pbR c d t s)
  rw [e] at h
  exact h

/-- The partial product, whole, is its blocks. -/
theorem product_cut (c : Dev nD) :
    prodAt c Finset.univ (P c) = (iprop(bigSepL paAll (factOwn P c) ∗ bigSepL pbAll (factOwn P c)) : sProp 𝕄) := by
  have ha : ∀ t ∈ (Finset.univ : Finset (Bool × Fin 4 × Fin 8)), factOwn P c (.pa t.1 t.2.1 t.2.2) = prodAt c (setP c (.inl t)) (P c) :=
    fun t _ => pa_at P c t.1 t.2.1 (t.2.2.val + 1)
  have hb : ∀ t ∈ (Finset.univ : Finset (Bool × Fin 4 × Fin 4)), factOwn P c (.pb t.1 t.2.1 t.2.2) = prodAt c (setP c (.inr t)) (P c) :=
    fun t _ => pb_at P c t.1 (t.2.1.val + 1) t.2.2
  have e : prodAt c Finset.univ (P c) = bigSep Finset.univ fun t => prodAt c (setP c t) (P c) :=
    cut (ℓ := (c : Thread nD τ).loc cc0_scratch0) (setP c) (coverP c) (oneP c) (P c)
  rw [e, bigSep_univ_sum, ← bigSep_congr ha, ← bigSep_congr hb, pa_kinds, pb_kinds, bigSepL_map, bigSepL_map, sep_paL, sep_pbL]
  rfl

/-! ## The result -/

/-- The result of `c`: its columns, by quarters. -/
def outV (c : Dev nD) : FVec F S64x2048 .f32 := fun i =>
  if (i 1).val < 1536 then oaV P c (decide (768 ≤ (i 1).val)) (Shape.pair (d := ![64, 768]) ⟨(i 0).val, (i 0).isLt⟩ ⟨(i 1).val % 768, Nat.mod_lt _ (by decide)⟩)
  else obV P c (decide (1792 ≤ (i 1).val)) (Shape.pair (d := ![64, 256]) ⟨(i 0).val, (i 0).isLt⟩ ⟨(i 1).val % 256, Nat.mod_lt _ (by decide)⟩)

theorem out_oa (c : Dev nD) (d : Bool) : (oaM d).view.read (Elt F) (outV P c) = oaV P c d := by
  funext j
  have e : (oaM d).view.read (Elt F) (outV P c) j = outV P c ((oaR d).emb j) := rfl
  rw [e]
  have h1 : (j 1).val < 768 := (j 1).isLt
  have hd : d.toNat ≤ 1 := Bool.toNat_le d
  have v0 : (((oaR d).emb j) 0).val = (j 0).val := by show 0 + 1 * (j 0).val = _; omega
  have v1 : (((oaR d).emb j) 1).val = 768 * d.toNat + (j 1).val := by show 768 * d.toNat + 1 * (j 1).val = _; omega
  unfold outV
  rw [if_pos (by omega)]
  have hb : decide (768 ≤ (((oaR d).emb j) 1).val) = d := by
    rw [v1]; cases d <;> (simp only [Bool.toNat_false, Bool.toNat_true, decide_eq_true_eq, decide_eq_false_iff_not]; omega)
  rw [hb]
  refine congrArg (oaV P c d) ?_
  rw [← Shape.pair_eta j]
  refine congrArg₂ Shape.pair (Fin.ext v0) (Fin.ext ?_)
  show (((oaR d).emb j) 1).val % 768 = (j 1).val
  omega
theorem out_ob (c : Dev nD) (d : Bool) : (obM d).view.read (Elt F) (outV P c) = obV P c d := by
  funext j
  have e : (obM d).view.read (Elt F) (outV P c) j = outV P c ((obR d).emb j) := rfl
  rw [e]
  have h1 : (j 1).val < 256 := (j 1).isLt
  have hd : d.toNat ≤ 1 := Bool.toNat_le d
  have v0 : (((obR d).emb j) 0).val = (j 0).val := by show 0 + 1 * (j 0).val = _; omega
  have v1 : (((obR d).emb j) 1).val = 1536 + 256 * d.toNat + (j 1).val := by show 1536 + 256 * d.toNat + 1 * (j 1).val = _; omega
  unfold outV
  rw [if_neg (by omega)]
  have hb : decide (1792 ≤ (((obR d).emb j) 1).val) = d := by
    rw [v1]; cases d <;> (simp only [Bool.toNat_false, Bool.toNat_true, decide_eq_true_eq, decide_eq_false_iff_not]; omega)
  rw [hb]
  refine congrArg (obV P c d) ?_
  rw [← Shape.pair_eta j]
  refine congrArg₂ Shape.pair (Fin.ext v0) (Fin.ext ?_)
  show (((obR d).emb j) 1).val % 256 = (j 1).val
  omega

theorem mem_oaR (d : Bool) (i : S64x2048.Idx) : i ∈ (oaR d).set ↔ (i 1).val / 768 = d.toNat := by
  rw [Rect.mem_set_unit]
  have h0 : (i 0).val < 64 := (i 0).isLt
  constructor
  · intro hh
    have h1 : 768 * d.toNat ≤ (i 1).val ∧ (i 1).val < 768 * d.toNat + 768 := hh 1
    omega
  · intro h1 a
    match a with
    | 0 => show 0 ≤ (i 0).val ∧ (i 0).val < 0 + 64; omega
    | 1 => show 768 * d.toNat ≤ (i 1).val ∧ (i 1).val < 768 * d.toNat + 768; omega
theorem mem_obR (d : Bool) (i : S64x2048.Idx) : i ∈ (obR d).set ↔ (i 1).val / 256 = 6 + d.toNat := by
  rw [Rect.mem_set_unit]
  have h0 : (i 0).val < 64 := (i 0).isLt
  constructor
  · intro hh
    have h1 : 1536 + 256 * d.toNat ≤ (i 1).val ∧ (i 1).val < 1536 + 256 * d.toNat + 256 := hh 1
    omega
  · intro h1 a
    match a with
    | 0 => show 0 ≤ (i 0).val ∧ (i 0).val < 0 + 64; omega
    | 1 => show 1536 + 256 * d.toNat ≤ (i 1).val ∧ (i 1).val < 1536 + 256 * d.toNat + 256; omega

abbrev setO : Bool × Bool → Finset S64x2048.Idx
  | (false, d) => (oaR d).set
  | (true, d) => (obR d).set
theorem coverO (i : S64x2048.Idx) : ∃ t, i ∈ setO t := by
  have h1 : (i 1).val < 2048 := (i 1).isLt
  by_cases h : (i 1).val < 1536
  · obtain ⟨d, hd⟩ := bool_of (show (i 1).val / 768 < 2 by omega)
    exact ⟨(false, d), (mem_oaR d i).mpr hd⟩
  · obtain ⟨d, hd⟩ := bool_of (show (i 1).val / 256 - 6 < 2 by omega)
    exact ⟨(true, d), (mem_obR d i).mpr (by omega)⟩
theorem oneO (i : S64x2048.Idx) (t t' : Bool × Bool) (h : i ∈ setO t) (h' : i ∈ setO t') : t = t' := by
  rcases t with ⟨_ | _, d⟩ <;> rcases t' with ⟨_ | _, d'⟩
  · rw [toNat_inj (((mem_oaR d i).mp h).symm.trans ((mem_oaR d' i).mp h'))]
  · have b := (mem_oaR d i).mp h
    have b' := (mem_obR d' i).mp h'
    have := Bool.toNat_le d; omega
  · have b := (mem_oaR d' i).mp h'
    have b' := (mem_obR d i).mp h
    have := Bool.toNat_le d'; omega
  · have b := (mem_obR d i).mp h
    have b' := (mem_obR d' i).mp h'
    rw [show d = d' from toNat_inj (by omega)]

theorem sep_quarters (Φ : Bool × Bool → sProp M) : bigSep Finset.univ Φ = iprop(Φ (false, false) ∗ Φ (false, true) ∗ Φ (true, false) ∗ Φ (true, true)) :=
  bigSep_univ_eq_bigSepL [(false, false), (false, true), (true, false), (true, true)] (by decide) (by decide) Φ

theorem quarters_cut (c : Dev nD) : bufAny (F := F) c cc0_stg2_0 ⊢ bigSepL resAll (factOwn P c) := by
  have ha : ∀ d, (iprop(∃ f, ((c : Thread nD τ).loc cc0_stg2_0) ↦[setO (false, d)]{fullShare} f) : sProp 𝕄) = factOwn P c (.res false d) := fun d =>
    ((any_eq c (oaM d)).trans (congrArg (fun S : Finset S64x2048.Idx => (iprop(∃ f, ((c : Thread nD τ).loc cc0_stg2_0) ↦[S]{fullShare} f) : sProp 𝕄)) (View.set_slice_whole cc0_stg2_0 (oaR d)))).symm
  have hb : ∀ d, (iprop(∃ f, ((c : Thread nD τ).loc cc0_stg2_0) ↦[setO (true, d)]{fullShare} f) : sProp 𝕄) = factOwn P c (.res true d) := fun d =>
    ((any_eq c (obM d)).trans (congrArg (fun S : Finset S64x2048.Idx => (iprop(∃ f, ((c : Thread nD τ).loc cc0_stg2_0) ↦[S]{fullShare} f) : sProp 𝕄)) (View.set_slice_whole cc0_stg2_0 (obR d)))).symm
  refine (cut_any (ℓ := (c : Thread nD τ).loc cc0_stg2_0) setO coverO oneO).trans ?_
  rw [sep_quarters, ha, ha, hb, hb]
  exact BI.Entails.refl _

theorem quarters_join (c : Dev nD) : bigSepL doneAll (factOwn P c) = (outAt c Finset.univ (outV P c) : sProp 𝕄) := by
  have ha : ∀ d, factOwn P c (.done false d) = outAt c (setO (false, d)) (outV P c) := fun d =>
    (congrArg (own c (oaM d)) (out_oa P c d).symm).trans ((own_read c (oaM d) (outV P c)).trans
      (congrArg (fun S => outAt c S (outV P c)) (View.set_slice_whole cc0_stg2_0 (oaR d))))
  have hb : ∀ d, factOwn P c (.done true d) = outAt c (setO (true, d)) (outV P c) := fun d =>
    (congrArg (own c (obM d)) (out_ob P c d).symm).trans ((own_read c (obM d) (outV P c)).trans
      (congrArg (fun S => outAt c S (outV P c)) (View.set_slice_whole cc0_stg2_0 (obR d))))
  have e : outAt c Finset.univ (outV P c) = bigSep Finset.univ fun t => outAt c (setO t) (outV P c) :=
    cut (ℓ := (c : Thread nD τ).loc cc0_stg2_0) setO coverO oneO (outV P c)
  rw [e, sep_quarters, ← ha, ← ha, ← hb, ← hb]
  rfl

end Cert.SumProof

end
-- ==== Proof.Body.lean ====
/-
# The body

A device's whole run: the product is stored and cut in blocks, the landing places are handed to the neighbours in the
handshake and the neighbours' are had in return, the events run, and at the end the buffers are whole again, the result
among them, and every semaphore is closed.
-/
module

public import proofs.«01_k».proof.Proof.Buffers
public import Idealize.ShloMosaic.Lib.Pipeline.TalkSched

@[expose] public section

noncomputable section

namespace Cert.SumProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## By sides -/

section Sides
variable {M : Type} [URA M]

theorem sep_sides (Φ : Side → sProp M) : bigSep Finset.univ Φ = iprop(Φ .succ ∗ Φ .pred ∗ Φ .up ∗ Φ .down) :=
  bigSep_univ_eq_bigSepL [.succ, .pred, .up, .down] (by decide) (by decide) Φ |>.trans (by simp only [bigSepL_cons_cons, bigSepL_singleton]; rfl)

theorem by_side (Φ : Copy → sProp M) : bigSep Finset.univ Φ = bigSep Finset.univ fun j => bigSep (toSide j) Φ := by
  have h := bigSep_fiberwise Finset.univ Copy.side Φ
  rw [show (Finset.univ : Finset Copy).image Copy.side = Finset.univ from by decide +kernel] at h
  exact h

/-- The side seen from the other end, as an exchange of the sides. -/
def oppE : Side ≃ Side := ⟨Side.opp, Side.opp, Side.opp_opp, Side.opp_opp⟩
end Sides

/-- A device's landing places are what it hands its four neighbours; -/
theorem slots_out (c : Dev nD) : (bigSep Finset.univ fun k => slotAny (F := F) c k) = bigSep Finset.univ fun j : Side => barPay (F := F) (nb c j) j.opp := by
  rw [by_side, bigSep_univ_equiv oppE]
  refine bigSep_congr fun j _ => ?_
  show bigSep (toSide j.opp) (fun k => slotAny (F := F) c k) = bigSep (toSide j.opp) fun k => slotAny (F := F) (nb (nb c j) j.opp) k
  rw [nb_opp]

/-- and what its four neighbours hand it is a landing place for each copy. -/
theorem slots_in (c : Dev nD) : (bigSep Finset.univ fun j : Side => barPay (F := F) c j) = bigSep Finset.univ fun k => slotAny (F := F) (tgt c k) k := by
  rw [by_side]
  refine bigSep_congr fun j _ => bigSep_congr fun k hk => ?_
  rw [← (Finset.mem_filter.mp hk).2]

variable (P : Dev nD → FVec F S2048x2048 .f32) (K : Dev nD × CI → ℕ)

/-! ## The handshake -/

/-- The word a signal is of, and the one waited for. -/
theorem wp_signalP (c : Dev nD) (j : Side) (l : List Debt) (p : Prog (BodyEff F) PUnit) (Q : PUnit → sProp 𝕄) :
    iprop(records P K ∗ owesAny c (owed c (.inl j :: l)) ∗ dutyTok ER (bar (nb c j)) 0 j.opp ∗ barPay (F := F) (nb c j) j.opp)
      ⊢ iprop((owesAny c (owed c l) -∗ go c p Q) -∗ go c (.op (.semSignal (((nb c j : Dev nD) : Thread nD τ)) barS (1#32 : BitVec 32).toInt.toNat) fun _ => p) Q) := by
  unfold owesAny
  iintro ⟨#HR, ⟨%W, HO⟩, Ht, Hp⟩ Hk
  ihave Hi := (records_at P K (nb c j, none)) $$ HR
  unfold rec1
  icases Hi with ⟨Hi, Hr⟩
  iapply (Rounds.wp_signal 𝒱₀ ER (rd P) (c : Thread nD τ) none (dst := ((nb c j : Dev nD) : Thread nD τ)) (κ := K (nb c j, none))
      (d := j.opp) (by show _ ∈ (rd P).duties (bar (nb c j)) 0; rw [duties_bar]; exact Finset.mem_univ _) ((amount_bar P (nb c j) j.opp).trans (by decide)) () (owed c l) rfl)
    $$ [HO Ht Hp Hi Hr]
  · isplitl [Hi]; · iexact Hi
    isplitl [HO]; · iexact HO
    isplitl [Ht]; · iexact Ht
    isplitl [Hp]
    · iapply (Entails.of_eq (show barPay (F := F) (nb c j) j.opp = (rd P).payload (bar (nb c j)) 0 j.opp from (payload_cell P (nb c j) none j.opp).symm) : barPay (F := F) (nb c j) j.opp ⊢ (rd P).payload (((nb c j : Dev nD) : Thread nD τ), .reg barS) 0 j.opp); iexact Hp
    iexact Hr
  iintro HO
  iapply Hk
  iexists W; iexact HO

theorem wp_barWait (c : Dev nD) {w : TpuEff nD τ sig (Elt F) Λ₀ .tc PUnit} {n : ℕ} (hn : n = 4)
    (hw : ∀ Φ : PUnit → sProp 𝕄, wpE (defs₀ (F := F)) 𝒱₀ (c : Thread nD τ) none Set.univ w Φ = waitSpec (c : Thread nD τ) Set.univ (csem none) n Φ)
    (l : List Copy) (p : Prog (BodyEff F) PUnit) (Q : PUnit → sProp 𝕄) :
    iprop(records P K ∗ levAts L lv ∗ cred (tallyAt (bar c) () 4) ∗ owesAny c (owed c (l.map .inr)) ∗ atPos ER (bar c) 0 ∅ 0)
      ⊢ iprop((((bigSep Finset.univ fun j => barPay (F := F) c j) ∗ owesAny c (owed c (l.map .inr)) ∗ semVal (bar c) 0) -∗ go c p Q) -∗ go c (.op w fun _ => p) Q) := by
  subst hn
  unfold owesAny
  iintro ⟨#HR, #Hlev, Hc, ⟨%W, HO⟩, Hat⟩ Hk
  ihave Hi := (records_at P K (c, none)) $$ HR
  unfold rec1
  icases Hi with ⟨#Hi, -⟩
  iapply (Rounds.wp_wait_rest_token 𝒱₀ ER (rd P) (c : Thread nD τ) none (κ := K (c, none))
      hw (Set.mem_univ _) () (O := owed c (l.map .inr)) (W := W) (R := 0) (m := 0) (T := ∅)
      ((Nat.zero_add _).trans (expect_bar P c).symm)) $$ [Hc HO Hat]
  · isplitr; · iexact Hi
    isplitl [Hc]; · iexact Hc
    isplitl [HO]; · iexact HO
    isplitr
    · iapply (mayWait c (csem none) (l.map .inr) (fun i hi => by
        obtain ⟨k, -, rfl⟩ := List.mem_map.mp hi
        have hl : ∀ k : Copy, 1 < rlev k := by decide +kernel
        exact lt_of_eq_of_lt (by simp only [lv, ci_csem]) (hl k))); iexact Hlev
    iexact Hat
  iintro ⟨HO, Hat, -, Hpay⟩
  ihave Hp := (Entails.of_eq (rest_bar P c)) $$ Hpay
  imod (Rounds.cell_close ER (rd P) (Set.mem_univ (K (c, none))) (fun h => h) (R := 0 + 1) (duties_later P (bar c))) $$ [Hat] with Hz
  · isplitr; · iexact Hi
    iexact Hat
  iapply Hk
  isplitl [Hp]; · iexact Hp
  isplitl [HO]; · iexists _; iexact HO
  iexact Hz

/-! ## What the body starts from, and leaves -/

/-- The positions of a device's own cells, and the tokens of what it pays. -/
def ghost (c : Dev nD) : sProp 𝕄 :=
  iprop(atPos ER (bar c) 0 ∅ 0 ∗ (bigSep Finset.univ fun k => atPos ER (snd c k) 0 ∅ 0) ∗ (bigSep Finset.univ fun k => atPos ER (rcv c k) 0 ∅ 0)
    ∗ (bigSep Finset.univ fun j : Side => dutyTok ER (bar (nb c j)) 0 j.opp) ∗ (bigSep Finset.univ fun k => dutyTok ER (snd c k) 0 Side.succ)
    ∗ (bigSep Finset.univ fun k => dutyTok ER (rcv (tgt c k) k) 0 Side.succ))

/-- What it may wait for. -/
def creds (c : Dev nD) : sProp 𝕄 := iprop(cred (tallyAt (bar c) () 4) ∗ bigSep Finset.univ fun k => cred (tallyAt (rcv c k) () (N k)))

/-- Its scratch buffers, whole, at some contents. -/
def bufs (c : Dev nD) : sProp 𝕄 :=
  iprop(bufAny (F := F) c cc0_scratch0 ∗ bufAny (F := F) c cc0_scratch1 ∗ bufAny (F := F) c cc0_scratch2 ∗ bufAny (F := F) c cc0_scratch3 ∗ bufAny (F := F) c cc0_scratch4)

/-- Its semaphores, closed. -/
def zeros (c : Dev nD) : sProp 𝕄 :=
  iprop(semVal (bar c) 0 ∗ (bigSep Finset.univ fun k => semVal (snd c k) 0) ∗ (bigSep Finset.univ fun k => semVal (rcv c k) 0))

/-- Everything a device owes at first. -/
def debts : List Debt := .inl .succ :: .inl .pred :: .inl .up :: .inl .down :: sends.map .inr

theorem left_nodup : leftAll.Nodup := by decide +kernel

theorem hz : (![0, 0] : Fin 2 → Nat) = fun _ => 0 := funext fun a => by fin_cases a <;> rfl

/-- The blocks of a product are a whole buffer. -/
theorem product_any (c : Dev nD) : iprop(bigSepL paAll (factOwn P c) ∗ bigSepL pbAll (factOwn P c)) ⊢ bufAny (F := F) c cc0_scratch0 := by
  rw [← product_cut]
  unfold prodAt bufAny
  iintro H
  iexists (P c)
  iexact H

/-- The events, from what the handshake leaves to what the last departure leaves. -/
theorem events_ok (c : Dev nD) (Q : PUnit → sProp 𝕄) :
    iprop(records P K ∗ levAts L lv ∗ owesAny c (owed c (sends.map .inr))
        ∗ (bigSep Finset.univ fun k => dutyTok ER (snd c k) 0 Side.succ) ∗ (bigSep Finset.univ fun k => dutyTok ER (rcv (tgt c k) k) 0 Side.succ)
        ∗ (bigSep Finset.univ fun k => atPos ER (snd c k) 0 ∅ 0) ∗ (bigSep Finset.univ fun k => slotAny (F := F) (tgt c k) k)
        ∗ (bigSep Finset.univ fun k => cred (tallyAt (rcv c k) () (N k))) ∗ (bigSep Finset.univ fun k => atPos ER (rcv c k) 0 ∅ 0)
        ∗ prodAt c Finset.univ (P c) ∗ bufAny (F := F) c cc0_stg2_0)
      ⊢ iprop(((owesAny c 0 ∗ (bigSep Finset.univ fun k => semVal (snd c k) 0) ∗ (bigSep Finset.univ fun k => semVal (rcv c k) 0)
            ∗ bufs (F := F) c ∗ outAt c Finset.univ (outV P c)) -∗ Q ⟨⟩)
          -∗ go c (runEvs c evs (.ret ⟨⟩)) Q) := by
  obtain ⟨zr, zs, f, hs, hzr, hzs, hf⟩ := evs_end
  iintro ⟨#HR, #Hlev, HO, Hts, Htr, Hats, Hsl, Hc, Hatr, Hprod, Hres⟩ Hk
  ihave Hpr := (Entails.of_eq (product_cut P c)) $$ Hprod
  icases Hpr with ⟨Hpa, Hpb⟩
  ihave Hres := (quarters_cut P c) $$ Hres
  iapply (steps_ok P K c evs σ₀ _ hs (.ret ⟨⟩) Q) $$ [HO Hts Htr Hats Hsl Hc Hatr Hpa Hpb Hres]
  · isplitr; · iexact HR
    isplitr; · iexact Hlev
    unfold stOwn σ₀
    dsimp only
    rw [sep_sends, sep_all, bigSepL_nil, bigSepL_nil, bigSepL_nil, bigSepL_append, bigSepL_append]
    unfold unsOwn unrOwn
    rw [bigSep_sep', bigSep_sep', bigSep_sep', bigSep_sep']
    isplitl [HO]; · iexact HO
    isplitl [Hts Htr Hats Hsl]
    · isplitl [Hts]; · iexact Hts
      isplitl [Htr]; · iexact Htr
      isplitl [Hats] <;> iassumption
    isplitl [Hc Hatr]
    · isplitl [Hc] <;> iassumption
    isplitr; · iempintro
    isplitr; · iempintro
    isplitr; · iempintro
    isplitl [Hpa]; · iexact Hpa
    isplitl [Hpb] <;> iassumption
  unfold stOwn
  dsimp only
  rw [TalkSites.bigSepL_perm hzr (hzr.nodup_iff.mpr Copy.all_nodup), TalkSites.bigSepL_perm hzs (hzs.nodup_iff.mpr Copy.all_nodup), TalkSites.bigSepL_perm hf (hf.nodup_iff.mpr left_nodup), sep_all, sep_all]
  unfold leftAll
  rw [bigSepL_append, bigSepL_append, bigSepL_append, bigSepL_append]
  iintro ⟨HO, -, -, -, Hzr, Hzs, Hpa, Hpb, Hh, Hl, Hd⟩
  unfold go; rw [wp_ret]
  imodintro
  iapply Hk
  isplitl [HO]; · iexact HO
  isplitl [Hzs]; · iexact Hzs
  isplitl [Hzr]; · iexact Hzr
  isplitl [Hpa Hpb Hh Hl]
  · unfold bufs
    isplitl [Hpa Hpb]
    · iapply (product_any P c)
      isplitl [Hpa] <;> iassumption
    iapply (slots_join P c)
    isplitl [Hh] <;> iassumption
  iapply (Entails.of_eq (quarters_join P c)); iexact Hd

/-- The printed body. -/
theorem body_ok (c : Dev nD) (x : (cc0_stg0_0 : Ref sig .tc).ty.Contents (Elt F)) (w : (cc0_stg1_0 : Ref sig .tc).ty.Contents (Elt F)) (hP : P c = k0_pay1 x w) (Q : PUnit → sProp 𝕄) :
    iprop(records P K ∗ levAts L lv ∗ ghost (F := F) c ∗ creds (F := F) c ∗ owesAny c (owed c debts) ∗ bufs (F := F) c
        ∗ (((c : Thread nD τ).loc cc0_stg0_0) ↦{fullShare} x) ∗ (((c : Thread nD τ).loc cc0_stg1_0) ↦{fullShare} w) ∗ bufAny (F := F) c cc0_stg2_0)
      ⊢ iprop(((owesAny c 0 ∗ zeros (F := F) c ∗ bufs (F := F) c
            ∗ (((c : Thread nD τ).loc cc0_stg0_0) ↦{fullShare} x) ∗ (((c : Thread nD τ).loc cc0_stg1_0) ↦{fullShare} w) ∗ outAt c Finset.univ (outV P c)) -∗ Q ⟨⟩)
          -∗ go c (cc0_body (F := F) xM (Memref.isWhole_whole _) wM (Memref.isWhole_whole _) oM (Memref.isWhole_whole _) pM (Memref.isWhole_whole _) a1M (Memref.isWhole_whole _)
            a2M (Memref.isWhole_whole _) b1M (Memref.isWhole_whole _) b2M (Memref.isWhole_whole _) cc0_scratch5 cc0_scratch6 cc0_scratch7 cc0_scratch8 cc0_scratch9 cc0_scratch10
            cc0_scratch11 cc0_scratch12) Q) := by
  rw [cc0_body_eq]
  simp only [productP, handshakeP, semSignalWord, semWaitWord, Prog.lift, Prog.bind_op, Prog.bind_ret, Prog.pure_eq_ret, wp_deviceId]
  unfold ghost creds bufs debts
  iintro ⟨#HR, #Hlev, ⟨Hatb, Hats, Hatr, Htb, Hts, Htr⟩, ⟨Hcb, Hc⟩, HO, ⟨Hp, Hslots⟩, Hx, Hw, Hres⟩ Hk
  -- the product
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  unfold bufAny
  icases Hp with ⟨%p₀, Hp⟩
  iapply (wp_load 𝒱₀ (c : Thread nD τ) none Set.univ (m := pM) (Finset.subset_univ _)) $$ Hp; iintro Hp
  iapply (wp_store 𝒱₀ (c : Thread nD τ) none Set.univ (m := pM) (r := Rect.unit (s := S2048x2048) ![0, 0] S2048x2048.size inb_S2048x2048_S2048x2048_0_0) (Mk := Finset.univ) (Finset.subset_univ _)) $$ Hp; iintro Hp
  ihave Hp := (show _ ⊢ prodAt c Finset.univ (P c) from Entails.of_eq (by
    rw [hP]
    refine congrArg (fun X => (((c : Thread nD τ).loc cc0_scratch0) ↦{fullShare} X : sProp 𝕄)) ?_
    refine (Memref.write_access_unit_zero_univ (Elt F) cc0_scratch0 hz _ _ _).trans ?_
    exact congrArg₂ k0_pay1 (Memref.readAt_unit_zero (Elt F) cc0_stg0_0 hz _ x) (Memref.readAt_unit_zero (Elt F) cc0_stg1_0 hz _ w))) $$ Hp
  -- the handshake
  ihave Hout := ((slots_cut (F := F) c).trans (Entails.of_eq ((slots_out c).trans (sep_sides _)))) $$ [Hslots]
  · unfold bufAny; iexact Hslots
  icases Hout with ⟨Hs1, Hs2, Hs3, Hs4⟩
  ihave Htb := (Entails.of_eq (sep_sides _)) $$ Htb
  icases Htb with ⟨Ht1, Ht2, Ht3, Ht4⟩
  iapply (wp_signalP P K c .succ (.inl .pred :: .inl .up :: .inl .down :: sends.map .inr) _ Q) $$ [HO Ht1 Hs1]
  · isplitr; · iexact HR
    isplitl [HO]; · iexact HO
    isplitl [Ht1] <;> iassumption
  iintro HO
  iapply (wp_signalP P K c .pred (.inl .up :: .inl .down :: sends.map .inr) _ Q) $$ [HO Ht2 Hs2]
  · isplitr; · iexact HR
    isplitl [HO]; · iexact HO
    isplitl [Ht2] <;> iassumption
  iintro HO
  iapply (wp_signalP P K c .up (.inl .down :: sends.map .inr) _ Q) $$ [HO Ht3 Hs3]
  · isplitr; · iexact HR
    isplitl [HO]; · iexact HO
    isplitl [Ht3] <;> iassumption
  iintro HO
  iapply (wp_signalP P K c .down (sends.map .inr) _ Q) $$ [HO Ht4 Hs4]
  · isplitr; · iexact HR
    isplitl [HO]; · iexact HO
    isplitl [Ht4] <;> iassumption
  iintro HO
  iapply (wp_barWait P K c (by decide) (wpE_semWait_eq 𝒱₀ (c : Thread nD τ) none Set.univ) sends _ Q) $$ [HO Hcb Hatb]
  · isplitr; · iexact HR
    isplitr; · iexact Hlev
    isplitl [Hcb]; · iexact Hcb
    isplitl [HO] <;> iassumption
  iintro ⟨Hin, HO, Hzb⟩
  ihave Hsl := (Entails.of_eq (slots_in (F := F) c)) $$ Hin
  -- the events
  iapply (events_ok P K c Q) $$ [HO Hts Htr Hats Hsl Hc Hatr Hp Hres]
  · isplitr; · iexact HR
    isplitr; · iexact Hlev
    isplitl [HO]; · iexact HO
    isplitl [Hts]; · iexact Hts
    isplitl [Htr]; · iexact Htr
    isplitl [Hats]; · iexact Hats
    isplitl [Hsl]; · iexact Hsl
    isplitl [Hc]; · iexact Hc
    isplitl [Hatr]; · iexact Hatr
    isplitl [Hp]; · iexact Hp
    unfold bufAny; iexact Hres
  iintro ⟨HO, Hzs, Hzr, Hb, Ho⟩
  iapply Hk
  isplitl [HO]; · iexact HO
  isplitl [Hzb Hzs Hzr]
  · unfold zeros
    isplitl [Hzb]; · iexact Hzb
    isplitl [Hzs] <;> iassumption
  isplitl [Hb]; · unfold bufs bufAny; iexact Hb
  isplitl [Hx]; · iexact Hx
  isplitl [Hw]; · iexact Hw
  iexact Ho

end Cert.SumProof

end
-- ==== Proof.Launch.lean ====
/-
# The launch

The pipeline's proof data, the body's obligation, the tokens and credits dealt at the launch, and the run of the whole
program on the mesh: it ends, every device's result array holds `outV`, the arguments are as they were, and every
semaphore is zero. Over any float values.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.SumProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The pipeline's proof data -/

/-- What the windows stage: the device's block of columns of the first argument, and of rows of the second; -/
def xstg (c : Dev nD) : (cc0_stg0_0 : Ref sig .tc).ty.Contents (Elt F) := (win0_0.blk (0 : Fin 1)).view.read (Elt F) ((s₀ m ρ).mem ((c : Thread nD τ).loc main_arg0))
def wstg (c : Dev nD) : (cc0_stg1_0 : Ref sig .tc).ty.Contents (Elt F) := (win0_1.blk (0 : Fin 1)).view.read (Elt F) ((s₀ m ρ).mem ((c : Thread nD τ).loc main_arg1))
/-- and the devices' partial products. -/
def parts (c : Dev nD) : FVec F S2048x2048 .f32 := k0_pay1 (xstg m ρ c) (wstg m ρ c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device starts from. -/
def start (c : Dev nD) : sProp 𝕄 := iprop((∃ K, records (parts m ρ) K ∗ ghost (F := F) c) ∗ creds (F := F) c ∗ levAts L lv)

def Φ₀ (c : Dev nD) : sProp 𝕄 := iprop(start m ρ c ∗ bufs (F := F) c)
def Φ₁ (c : Dev nD) : sProp 𝕄 := iprop(bufs (F := F) c ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outV (parts m ρ) c
  Φ t := match t with
    | ⟨0, _⟩ => Φ₀ m ρ c
    | ⟨_ + 1, _⟩ => Φ₁ (F := F) c
  q _ := fullShare
  owed t := match t with
    | ⟨0, _⟩ => owed c debts
    | ⟨_ + 1, _⟩ => 0

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

/-- A staging buffer at some contents, as the windows state it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body's obligation -/

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outV (parts m ρ) c))

theorem outAt_stg (P : Dev nD → FVec F S2048x2048 .f32) (c : Dev nD) : outAt c Finset.univ (outV P c) ⊢ (stg c cc0_stg2_0 (outV P c) : sProp 𝕄) := by
  unfold outAt
  iintro H
  iexists _
  isplitr; · (ipureintro; rfl)
  iexact H

theorem sound_body (c : Dev nD) :
    bodyPre m ρ c ⊢ go c (cc0_body (F := F) xM (Memref.isWhole_whole _) wM (Memref.isWhole_whole _) oM (Memref.isWhole_whole _) pM (Memref.isWhole_whole _) a1M (Memref.isWhole_whole _)
            a2M (Memref.isWhole_whole _) b1M (Memref.isWhole_whole _) b2M (Memref.isWhole_whole _) cc0_scratch5 cc0_scratch6 cc0_scratch7 cc0_scratch8 cc0_scratch9 cc0_scratch10
            cc0_scratch11 cc0_scratch12) (fun _ => bodyPost m ρ c) := by
  unfold bodyPre Φ₀ start
  iintro ⟨⟨⟨⟨%K, HR, Hg⟩, Hc, Hlev⟩, Hb⟩, Ho, ⟨%d0, %g0, %hg0, Hx⟩, ⟨%d1, %g1, %hg1, Hw⟩, ⟨%d2, %g2, %hg2, Hres⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = owed c debts from rfl]
  iapply (body_ok (parts m ρ) K c (xstg m ρ c) (wstg m ρ c) rfl fun _ => bodyPost m ρ c) $$ [HR Hg Hc Hlev Hb HO Hx Hw Hres]
  · isplitl [HR]; · iexact HR
    isplitl [Hlev]; · iexact Hlev
    isplitl [Hg]; · iexact Hg
    isplitl [Hc]; · iexact Hc
    isplitl [HO]; · unfold owesAny; iexists W; iexact HO
    isplitl [Hb]; · iexact Hb
    isplitl [Hx]; · iexact Hx
    isplitl [Hw]; · iexact Hw
    unfold bufAny; iexists g2; iexact Hres
  unfold bodyPost Φ₁ owesAny Dat.owesAt Pipeline.owesWithin
  rw [show (dats m ρ 0 c).owed t₀.succ = 0 from rfl]
  iintro ⟨⟨%W', HO⟩, Hz, Hb, Hx, Hw, Ho⟩
  isplitl [Hz Hb]
  · isplitl [Hb] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iapply (outAt_stg (parts m ρ) c); iexact Ho

set_option maxRecDepth 100000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

/-! ## The launch's tokens -/

/-- The kernel's own semaphores, apart from the barrier's. -/
abbrev osem (p : Bool × Copy) : SemLoc sig := csem (some p)

theorem which_stage (w : Fin 3) (s : Fin (spec0 w).nbuf) : which ((spec0 w).sem s).val = none := by revert w s; decide +kernel
theorem ci_stage (w : Fin 3) (s : Fin (spec0 w).nbuf) : ci (.dma ((spec0 w).sem s)) = none := by
  show (which ((spec0 w).sem s).val).map some = none; rw [which_stage]; rfl

theorem ownSemFacts : Pipeline.OwnSemFacts cfg0.spec osem where
  isScoped := by decide +kernel
  inj := fun p p' h => Option.some.inj (csem_inj h)
  disj := fun p w s h => by
    have h' := congrArg ci h
    rw [ci_csem] at h'
    exact Option.some_ne_none _ (h'.trans (ci_stage w s))

theorem share_eq (c : Dev nD) (w : Fin cfg0.W) : (dats m ρ 0 c).share w = fullShare := by unfold Dat.share; split <;> rfl

abbrev kcell (p : Dev nD × CI) : GSem nD τ sig := cell p.1 p.2
theorem kcell_injective : Function.Injective (kcell : Dev nD × CI → GSem nD τ sig) := fun p p' h =>
  Prod.ext (cell_inj h).1 (cell_inj h).2
def allCells : Finset (GSem nD τ sig) := Finset.univ.map ⟨kcell, kcell_injective⟩

/-- A duty of a device's own cells: its barrier's, by side, and its copies'. -/
abbrev tokOf (p : Dev nD × (Side ⊕ (Bool × Copy))) : GSem nD τ sig × ℕ × Side := match p.2 with
  | .inl j => (bar p.1, 0, j)
  | .inr i => (cell p.1 (some i), 0, .succ)
theorem tokOf_injective : Function.Injective tokOf := by
  rintro ⟨c, j⟩ ⟨c', j'⟩ h
  have h1 : (tokOf (c, j)).1 = (tokOf (c', j')).1 := congrArg Prod.fst h
  have h2 : (tokOf (c, j)).2.2 = (tokOf (c', j')).2.2 := congrArg (fun x => x.2.2) h
  rcases j with j | i <;> rcases j' with j' | i'
  · obtain ⟨rfl, -⟩ := cell_inj h1
    exact congrArg (fun j => (c, Sum.inl j)) h2
  · exact absurd (cell_inj h1).2 (Option.some_ne_none _).symm
  · exact absurd (cell_inj h1).2 (Option.some_ne_none _)
  · obtain ⟨rfl, e⟩ := cell_inj h1
    exact congrArg (fun i => (c, Sum.inr i)) (Option.some.inj e)
def allToks : Finset (GSem nD τ sig × ℕ × Side) := Finset.univ.map ⟨tokOf, tokOf_injective⟩

def u₀ : UU := (initOf (Pipeline.cells cfgs cellOf_inj) (Pipeline.launchToks cfgs cellOf_inj), initOf allCells allToks)

/-- The tokens of a device's own cells. -/
def toks (c : Dev nD) : sProp 𝕄 :=
  iprop((bigSep Finset.univ fun j : Side => dutyTok ER (bar c) 0 j)
    ∗ (bigSep Finset.univ fun k => dutyTok ER (snd c k) 0 Side.succ) ∗ (bigSep Finset.univ fun k => dutyTok ER (rcv c k) 0 Side.succ))

/-- What the launch deals a device, -/
def G (c : Dev nD) : sProp 𝕄 :=
  iprop((bigSep Finset.univ fun i : CI => roundState ER (rd (parts m ρ)) (kcell (c, i)) 0)
    ∗ (bigSep Finset.univ fun i : CI => iprop(atPos ER (kcell (c, i)) 0 ∅ 0 ∗ reached ER (kcell (c, i)) 0)) ∗ toks (F := F) c)
/-- and what becomes of it. -/
def G' (c : Dev nD) : sProp 𝕄 := iprop(∃ K, records (parts m ρ) K ∗ ghost (F := F) c)

section Split
variable {M : Type} [URA M]

theorem sep_pairs (Φ : Bool × Copy → sProp M) : bigSep Finset.univ Φ = iprop((bigSep Finset.univ fun k => Φ (false, k)) ∗ bigSep Finset.univ fun k => Φ (true, k)) := by
  rw [bigSep_univ_prod]
  exact (bigSep_univ_eq_bigSepL [false, true] (by decide) (by decide) _).trans (by simp only [bigSepL_cons_cons, bigSepL_singleton]; rfl)

theorem sep_cells (Φ : CI → sProp M) :
    bigSep Finset.univ Φ = iprop(Φ none ∗ (bigSep Finset.univ fun k => Φ (some (false, k))) ∗ bigSep Finset.univ fun k => Φ (some (true, k))) := by
  rw [← sep_pairs fun p => Φ (some p), bigSep_univ_equiv ((Equiv.optionEquivSumPUnit.{0, 0} (Bool × Copy)).trans (Equiv.sumComm _ _)).symm Φ]
  refine (bigSep_univ_sum _).trans ?_
  exact congrArg (fun X => iprop(X ∗ bigSep Finset.univ fun p => Φ (some p))) bigSep_singleton
end Split

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    refine bigSep_congr fun c _ => ?_
    unfold toks
    refine (bigSep_univ_sum _).trans ?_
    rw [sep_pairs]
    rfl
  iintro HX
  imod (Rounds.fund ER (rd (parts m ρ)) allCells allToks) $$ HX with ⟨Hst, Hr, Hat, Htok⟩
  imodintro
  ihave Hst' := (Entails.of_eq (hX fun g => roundState ER (rd (parts m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun k => semVal (snd c k) 0) ∗ bigSep Finset.univ fun k => semVal (rcv c k) 0) := by
  unfold Pipeline.ownSems0; rw [sep_pairs]
theorem unscopedSems0_eq (c : Dev nD) : (unscopedSems0 c : sProp 𝕄) = semVal (bar c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, sep_cells]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (rd (parts m ρ)) κ (kcell (c, i))))
          ∗ (bigSep Finset.univ fun i : CI => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (rd (parts m ρ)) (kcell (c, i)) 0)
      ⊢ (|={Set.univ}=> bigSep Finset.univ fun i : CI => iprop(∃ κ : ℕ, cellInv ER (rd (parts m ρ)) κ (kcell (c, i))) : sProp 𝕄) from by
        rw [← bigSep_sep']
        exact (bigSep_mono fun i _ => (Rounds.body_intro ER (rd (parts m ρ)) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of what a device pays. -/
def payToks (c : Dev nD) : sProp 𝕄 :=
  iprop((bigSep Finset.univ fun j : Side => dutyTok ER (bar (nb c j)) 0 j.opp) ∗ (bigSep Finset.univ fun k => dutyTok ER (snd c k) 0 Side.succ)
    ∗ (bigSep Finset.univ fun k => dutyTok ER (rcv (tgt c k) k) 0 Side.succ))

/-- A device and a side, seen from the other end; -/
def acrossE : Dev nD × Side ≃ Dev nD × Side where
  toFun p := (nb p.1 p.2, p.2.opp)
  invFun p := (nb p.1 p.2, p.2.opp)
  left_inv p := Prod.ext (nb_opp p.1 p.2) (Side.opp_opp p.2)
  right_inv p := Prod.ext (nb_opp p.1 p.2) (Side.opp_opp p.2)
/-- a device and a copy, where the copy goes. -/
def alongE : Dev nD × Copy ≃ Dev nD × Copy where
  toFun p := (tgt p.1 p.2, p.2)
  invFun p := (frm p.1 p.2, p.2)
  left_inv p := Prod.ext (frm_tgt p.1 p.2) rfl
  right_inv p := Prod.ext (tgt_frm p.1 p.2) rfl

theorem toks_around : (bigSep Finset.univ fun c : Dev nD => (toks (F := F) c : sProp 𝕄)) = bigSep Finset.univ fun c : Dev nD => payToks (F := F) c := by
  unfold toks payToks
  rw [bigSep_sep', bigSep_sep', bigSep_sep', bigSep_sep',
    ← bigSep_univ_prod (fun p : Dev nD × Side => (dutyTok ER (bar p.1) 0 p.2 : sProp 𝕄)), bigSep_univ_equiv acrossE, bigSep_univ_prod,
    ← bigSep_univ_prod (fun p : Dev nD × Copy => (dutyTok ER (rcv p.1 p.2) 0 Side.succ : sProp 𝕄)), bigSep_univ_equiv alongE, bigSep_univ_prod]
  rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions and tokens, with the records of all. -/
theorem ghost_intro (K : Dev nD × CI → ℕ) (c : Dev nD) :
    iprop(records (parts m ρ) K ∗ (bigSep Finset.univ fun i : CI => atPos ER (kcell (c, i)) 0 ∅ 0) ∗ payToks (F := F) c) ⊢ (G' m ρ c : sProp 𝕄) := by
  unfold G' ghost payToks
  rw [sep_cells]
  iintro ⟨HR, ⟨HaB, HaS, HaV⟩, HtB, HtS, HtV⟩
  iexists K
  isplitl [HR]; · iexact HR
  isplitl [HaB]; · iexact HaB
  isplitl [HaS]; · iexact HaS
  isplitl [HaV]; · iexact HaV
  isplitl [HtB]; · iexact HtB
  isplitl [HtS] <;> iassumption

theorem regroup :
    (bigSep Finset.univ fun c : Dev nD => iprop((bigSep Finset.univ fun i : CI => iprop(∃ κ : ℕ, cellInv ER (rd (parts m ρ)) κ (kcell (c, i))))
          ∗ (bigSep Finset.univ fun i : CI => iprop(atPos ER (kcell (c, i)) 0 ∅ 0 ∗ reached ER (kcell (c, i)) 0)) ∗ toks (F := F) c) : sProp 𝕄)
      ⊢ bigSep Finset.univ (G' m ρ) := by
  rw [bigSep_sep', bigSep_sep', ← bigSep_univ_prod (fun p : Dev nD × CI => iprop(∃ κ : ℕ, cellInv ER (rd (parts m ρ)) κ (kcell p))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun p : Dev nD × CI => (reached ER (kcell p) 0 : sProp 𝕄))]
  iintro ⟨HI, ⟨Hat, HR⟩, Htok⟩
  ihave HK := (BI.bigSep_exists_pi Finset.univ (fun (p : Dev nD × CI) (κ : ℕ) => (cellInv ER (rd (parts m ρ)) κ (kcell p) : sProp 𝕄))) $$ HI
  icases HK with ⟨%K, HI⟩
  ihave Htk := (Entails.of_eq (toks_around (F := F))) $$ Htok
  iapply (bigSep_with_persistent (R := records (parts m ρ) K) fun c _ => ghost_intro m ρ K c)
  isplitl [HI HR]
  · unfold records rec1
    rw [bigSep_sep']
    isplitl [HI]; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits -/

/-- A debt, to a device's barrier, summed over the devices; -/
theorem sum_dest_bar (c : Dev nD) (i : Debt) : (∑ d : Dev nD, (tallyAt (dest d i) () (amt i) : CellTallies nD τ sig Unit) (bar c) ()) = if i.isLeft then 1 else 0 := by
  rcases i with j | k
  · have h : ∀ d : Dev nD, (tallyAt (dest d (.inl j)) () (amt (.inl j)) : CellTallies nD τ sig Unit) (bar c) () = if d = nb c j.opp then 1 else 0 := fun d => by
      rw [tallyAt_apply]
      by_cases e : d = nb c j.opp
      · subst e
        rw [if_pos rfl, if_pos ⟨congrArg bar (nb_opp' c j).symm, rfl⟩]; rfl
      · rw [if_neg e, if_neg fun h => e (by rw [(cell_inj h.1).1, nb_opp])]
    rw [Finset.sum_congr rfl fun d _ => h d, Finset.sum_ite_eq' Finset.univ (nb c j.opp) fun _ => 1, if_pos (Finset.mem_univ _)]; rfl
  · refine Finset.sum_eq_zero fun d _ => ?_
    rw [tallyAt_apply, if_neg fun h => absurd (cell_inj h.1).2 (Option.some_ne_none _).symm]
/-- to a receive semaphore. -/
theorem sum_dest_rcv (c : Dev nD) (k : Copy) (i : Debt) : (∑ d : Dev nD, (tallyAt (dest d i) () (amt i) : CellTallies nD τ sig Unit) (rcv c k) ()) = if i = .inr k then N k else 0 := by
  rcases i with j | k'
  · rw [if_neg (fun h => by cases h)]
    refine Finset.sum_eq_zero fun d _ => ?_
    rw [tallyAt_apply, if_neg fun h => absurd (cell_inj h.1).2 (Option.some_ne_none _)]
  · by_cases hk : k' = k
    · subst hk
      have h : ∀ d : Dev nD, (tallyAt (dest d (.inr k')) () (amt (.inr k')) : CellTallies nD τ sig Unit) (rcv c k') () = if d = frm c k' then N k' else 0 := fun d => by
        rw [tallyAt_apply]
        by_cases e : d = frm c k'
        · subst e
          rw [if_pos rfl, if_pos ⟨congrArg (rcv · k') (tgt_frm c k').symm, rfl⟩]; rfl
        · rw [if_neg e, if_neg fun h => e (by rw [(cell_inj h.1).1, frm_tgt])]
      rw [Finset.sum_congr rfl fun d _ => h d, Finset.sum_ite_eq' Finset.univ (frm c k') fun _ => N k', if_pos (Finset.mem_univ _), if_pos rfl]
    · rw [if_neg fun h => hk (Sum.inr.inj h)]
      refine Finset.sum_eq_zero fun d _ => ?_
      rw [tallyAt_apply, if_neg fun h => hk (congrArg Prod.snd (Option.some.inj (cell_inj h.1).2)).symm]

theorem sum_owed_cons (g : GSem nD τ sig) (i : Debt) (l : List Debt) :
    (∑ d : Dev nD, owed d (i :: l) g ()) = (∑ d : Dev nD, owed d l g ()) + ∑ d : Dev nD, (tallyAt (dest d i) () (amt i) : CellTallies nD τ sig Unit) g () := by
  rw [← Finset.sum_add_distrib]
  exact Finset.sum_congr rfl fun d _ => by rw [owed, Pi.add_apply, Finsupp.add_apply]

theorem sum_owed_bar (c : Dev nD) (l : List Debt) : (∑ d : Dev nD, owed d l (bar c) ()) = l.countP Sum.isLeft := by
  induction l with
  | nil => exact Finset.sum_eq_zero fun _ _ => rfl
  | cons i l ih => rw [sum_owed_cons, ih, sum_dest_bar, List.countP_cons]
/-- Whether a debt is the copy `k`. -/
def isCopy (k : Copy) : Debt → Bool
  | .inl _ => false
  | .inr k' => decide (k' = k)

theorem sum_owed_rcv (c : Dev nD) (k : Copy) (l : List Debt) : (∑ d : Dev nD, owed d l (rcv c k) ()) = N k * l.countP (isCopy k) := by
  induction l with
  | nil => exact Finset.sum_eq_zero fun _ _ => rfl
  | cons i l ih =>
    rw [sum_owed_cons, ih, sum_dest_rcv, List.countP_cons, Nat.mul_add]
    refine Nat.add_left_cancel_iff.mpr ?_
    rcases i with j | k'
    · rw [if_neg (fun h => by cases h), if_neg (fun h => by cases h), Nat.mul_zero]
    · by_cases h : k' = k
      · rw [if_pos (congrArg _ h), if_pos (show isCopy k (.inr k') = true from decide_eq_true h), Nat.mul_one]
      · rw [if_neg (fun h' => h (Sum.inr.inj h')), if_neg (show ¬ isCopy k (.inr k') = true from fun h' => h (of_decide_eq_true h')), Nat.mul_zero]

theorem debts_bar : debts.countP Sum.isLeft = 4 := by decide +kernel
theorem debts_rcv (k : Copy) : debts.countP (isCopy k) = 1 := by revert k; decide +kernel

theorem launch_bar (c : Dev nD) :
    tallyOn (bar c) (launchCredit (Pipeline.owing fun c => owed c debts) 0 (bar c)) = (tallyAt (bar c) () 4 : CellTallies nD τ sig Unit) := by
  unfold tallyAt; refine congrArg _ (Finsupp.ext fun u => ?_); cases u
  rw [Pipeline.launchCredit_owing, Finsupp.single_eq_same, sum_owed_bar, debts_bar]
theorem launch_rcv (c : Dev nD) (k : Copy) :
    tallyOn (rcv c k) (launchCredit (Pipeline.owing fun c => owed c debts) 0 (rcv c k)) = (tallyAt (rcv c k) () (N k) : CellTallies nD τ sig Unit) := by
  unfold tallyAt; refine congrArg _ (Finsupp.ext fun u => ?_); cases u
  rw [Pipeline.launchCredit_owing, Finsupp.single_eq_same, sum_owed_rcv, debts_rcv, Nat.mul_one]

theorem creds_intro (c : Dev nD) : (Pipeline.launchCred (fun c => owed c debts) c : sProp 𝕄) ⊢ creds (F := F) c := by
  unfold Pipeline.launchCred creds
  refine (bigSep_subset (Finset.subset_univ (Finset.univ.map ⟨csem, csem_inj⟩))).trans ?_
  rw [bigSep_map, sep_cells]
  show iprop(cred (tallyOn (bar c) (launchCredit (Pipeline.owing fun c => owed c debts) 0 (bar c))) ∗ _
    ∗ bigSep Finset.univ fun k => cred (tallyOn (rcv c k) (launchCredit (Pipeline.owing fun c => owed c debts) 0 (rcv c k)))) ⊢ _
  rw [launch_bar, bigSep_congr (s := Finset.univ) (fun (k : Copy) _ => congrArg cred (launch_rcv c k))]
  iintro ⟨Hb, -, Hr⟩
  isplitl [Hb] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (fun c => owed c debts) c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem bufs_eq (c : Dev nD) : (Pipeline.scopedRest cfg0.spec c : sProp 𝕄) = bufs (F := F) c := by
  rw [scopedRest0_eq]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, bufs_eq, ownSems0_eq, unscopedSems0_eq]
  unfold Φ₁ zeros
  iintro ⟨Hr, HzB, Hz⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    have hz : lv ((c : Thread nD τ), .dma ((spec0 w).sem s)) () = 0 := by unfold lv; rw [ci_stage]
    rcases t with ⟨_ | _, ht⟩
    · refine mayWait c _ debts fun i _ => ?_
      rw [hz]
      have hp : ∀ k : Copy, 0 < rlev k := by decide +kernel
      rcases i with j | k
      · exact Nat.one_pos
      · exact hp k
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every fair run of the program on the 32 devices ends, with each array as the
    pipeline's data say and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owed c debts) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.SumProof

end
-- ==== Proof.Frames.lean ====
/-
# The frames

The printed kernel and the idealized one have one text, read at two kinds of float values; the run of the launch module is
over any. So both end, leave the arguments as they were, and leave every semaphore at zero.
-/
module

public import proofs.«01_k».proof.Defs
public import proofs.«01_k».proof.Proof.Launch
public import proofs.«01_k».proof.Proof.Gen.Kernel

@[expose] public section

noncomputable section

namespace Cert.SumProof

open Idealize.ShloMosaic Idealize.ShloMosaic.TcCoe Idealize.SL.Sem

/-- The printed kernel's table of bodies, as one of the idealized program's. -/
def tableOf {F : FTy → Type} (d : Defs Cert.Kernel.nD Cert.Kernel.τ Cert.Kernel.sig (Elt F) Cert.Kernel.Λ₀) :
    Defs Cert.KernelIdeal.nD Cert.KernelIdeal.τ Cert.KernelIdeal.sig (Elt F) Cert.KernelIdeal.Λ₀ := d

set_option maxRecDepth 1000000 in
theorem table_eq {F : FTy → Type} [FloatOps F] : tableOf (Cert.Kernel.defs₀ (F := F)) = Cert.KernelIdeal.defs₀ (F := F) := by
  unfold tableOf Cert.Kernel.defs₀ Cert.KernelIdeal.defs₀
  refine congrArg Defs.onTc ?_
  funext l a
  obtain ⟨l, hl⟩ := l
  cases l with
  | zero => rfl
  | succ n => exact absurd hl (Nat.not_lt.2 (Nat.le_add_left _ _))

theorem frame_ideal : Cert.quiescent_KernelIdeal := fun m ρ _ =>
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Ideal) m ρ)

theorem frame_kernel : Cert.quiescent_Kernel := fun m ρ _ => by
  have h := (θ_run (Cert.KernelIdeal.defs (F := Bits)) _ _).mono
    (fun _ h => (⟨fun c => ⟨(h.1 c (0 : Fin 3)).trans (finalA_x m ρ c), (h.1 c (1 : Fin 3)).trans (finalA_w m ρ c)⟩, h.2⟩ :
      (∀ c : Dev Cert.KernelIdeal.nD, _ ∧ _) ∧ _))
    (run_main (F := Bits) m ρ)
  unfold Cert.KernelIdeal.defs at h
  rw [← table_eq] at h
  exact h

end Cert.SumProof

end
-- ==== Proof.Sums.lean ====
/-
# What the rings add up

Over the extended reals the order of a sum does not matter. So what goes round a ring, or along the planes, is the sum of
the partial products of the devices it has passed, and after both it is the sum over all 32. This file follows one entry of
the result through the two halves: its row is counted from the device the sum ends at, and its column stays.
-/
module

public import proofs.«01_k».proof.Proof.Buffers
public import Idealize.ShloMosaic.PureOps.Ideal.Laws

@[expose] public section

noncomputable section

namespace Cert.SumProof

open Cert.KernelIdeal Cert.KernelIdeal.Gen
open Idealize.ShloMosaic Idealize.ShloMosaic.TcCoe

/-! ## The devices a sum has passed -/

/-- The device a ring copy in the direction `d` comes from, and the device a copy along the planes comes from. -/
abbrev rb (d : Bool) (c : Dev nD) : Dev nD := nb c (ringSide d).opp
abbrev zb (d : Bool) (c : Dev nD) : Dev nD := nb c (zSide d).opp

theorem rq_mod {s t : ℕ} (h : s % 8 = t % 8) : rq s = rq t := by simp only [rq, h]

theorem rpos_rb (d : Bool) (c : Dev nD) : rpos (rb d c) % 8 = (rpos c + sr d) % 8 := by revert d c; decide +kernel
theorem zpos_rb (d : Bool) (c : Dev nD) : zpos (rb d c) = zpos c := by revert d c; decide +kernel
theorem rpos_zb (d : Bool) (c : Dev nD) : rpos (zb d c) = rpos c := by revert d c; decide +kernel
theorem zpos_zb (d : Bool) (c : Dev nD) : zpos (zb d c) % 4 = (zpos c + sz d) % 4 := by revert d c; decide +kernel

theorem rrel_rb (d : Bool) (c : Dev nD) (t : ℕ) : rrel (rb d c) d t = rrel c d (t + 1) := by
  have h := rpos_rb d c
  refine rq_mod ?_
  rw [Nat.mul_succ]; omega
theorem zrel_rb (d : Bool) (c : Dev nD) (t : ℕ) : zrel (rb d c) d t = zrel c d t := by unfold zrel; rw [zpos_rb]
theorem rrel_zb (d : Bool) (c : Dev nD) (t : ℕ) : rrel (zb d c) d t = rrel c d t := by unfold rrel; rw [rpos_zb]
theorem zrel_zb (d : Bool) (c : Dev nD) (t : ℕ) : zrel (zb d c) d t = zrel c d (t + 1) := by
  have h := zpos_zb d c
  unfold zrel
  rw [Nat.mul_succ]; omega

theorem blk_rb (d : Bool) (c : Dev nD) (j t : ℕ) : blk (rb d c) d j t = blk c d j (t + 1) := by
  unfold blk; rw [zrel_rb, rrel_rb]
theorem blk_zb (d : Bool) (c : Dev nD) (j t : ℕ) : blk (zb d c) d j t = blk c d (j + 1) t := by
  unfold blk; rw [zrel_zb, rrel_zb]; rfl

/-- Once round, and once along all planes, the block is the device's own. -/
theorem blk_home (d : Bool) (c : Dev nD) : blk c d 3 8 = c.val := by revert d c; decide +kernel

/-- Going back round the ring and along the planes passes every device once. -/
theorem passes_inj (d : Bool) (c : Dev nD) :
    ∀ p q : Fin 4 × Fin 8, (rb d)^[p.2.val] ((zb d)^[p.1.val] c) = (rb d)^[q.2.val] ((zb d)^[q.1.val] c) → p = q := by
  revert d c; decide +kernel

/-- The two walks commute. -/
theorem rb_zb (d : Bool) (c : Dev nD) : rb d (zb d c) = zb d (rb d c) := by revert d c; decide +kernel

theorem walks (d : Bool) (n m : ℕ) (c : Dev nD) : (rb d)^[m] ((zb d)^[n] c) = (zb d)^[n] ((rb d)^[m] c) :=
  Function.Commute.iterate_iterate (f := rb d) (g := zb d) (fun c => rb_zb d c) m n c

/-- So the sum of what was passed is the sum over all devices. -/
theorem sum_passes (d : Bool) (c : Dev nD) (f : Dev nD → EReal) :
    ∑ n ∈ Finset.range 4, ∑ m ∈ Finset.range 8, f ((rb d)^[m] ((zb d)^[n] c)) = ∑ k, f k := by
  have hb : Function.Bijective fun p : Fin 4 × Fin 8 => ((rb d)^[p.2.val] ((zb d)^[p.1.val] c) : Fin 32) := by
    rw [Fintype.bijective_iff_injective_and_card]
    exact ⟨fun p q h => passes_inj d c p q h, rfl⟩
  have e := Fintype.sum_bijective _ hb (fun p => f ((rb d)^[p.2.val] ((zb d)^[p.1.val] c))) f fun _ => rfl
  rw [← e, Fintype.sum_prod_type, Finset.sum_range]
  exact Finset.sum_congr rfl fun n _ => Finset.sum_range _

/-! ## One entry -/

/-- An entry of a product, its row and column any numbers. -/
def ent (M : FVec Ideal S2048x2048 .f32) (r c : ℕ) : EReal :=
  if h : r < 2048 ∧ c < 2048 then M (Shape.pair (d := ![2048, 2048]) ⟨r, h.1⟩ ⟨c, h.2⟩) else 0

theorem ent_idx (M : FVec Ideal S2048x2048 .f32) (i : S2048x2048.Idx) {r c : ℕ} (hr : (i 0).val = r) (hc : (i 1).val = c) :
    M i = ent M r c := by
  subst hr hc
  have h0 : (i 0).val < 2048 := (i 0).isLt
  have h1 : (i 1).val < 2048 := (i 1).isLt
  unfold ent
  rw [dif_pos ⟨h0, h1⟩]
  exact congrArg M (Shape.pair_eta i).symm

variable (P : Dev nD → FVec Ideal S2048x2048 .f32)

theorem paV_ent (c : Dev nD) (d : Bool) (g t : ℕ) (j : S64x768.Idx) :
    paV P c d g t j = ent (P c) (64 * blk c d g t + (j 0).val) (768 * d.toNat + (j 1).val) := by
  have e : paV P c d g t j = P c ((paR c d g t).emb j) := rfl
  rw [e]
  refine ent_idx _ _ ?_ ?_
  · show 64 * blk c d g t + 1 * (j 0).val = _; omega
  · show 768 * d.toNat + 1 * (j 1).val = _; omega

theorem pbV_ent (c : Dev nD) (d : Bool) (t : ℕ) (s : Fin 4) (j : S128x256.Idx) :
    pbV P c d t s j = ent (P c) (512 * zrel c d t + 128 * s.val + (j 0).val) (1536 + 256 * d.toNat + (j 1).val) := by
  have e : pbV P c d t s j = P c ((pbR c d t s).emb j) := rfl
  rw [e]
  refine ent_idx _ _ ?_ ?_
  · show 512 * zrel c d t + 128 * s.val + 1 * (j 0).val = _; omega
  · show 1536 + 256 * d.toNat + 1 * (j 1).val = _; omega

/-! ## The first half -/

/-- Round the ring. -/
theorem a1V_ent (d : Bool) (g : Fin 4) (h : ℕ) (c : Dev nD) (j : S64x768.Idx) :
    a1V P d g h c j = ∑ m ∈ Finset.range (h + 2),
      ent (P ((rb d)^[m] c)) (64 * blk c d g (h + 2) + (j 0).val) (768 * d.toNat + (j 1).val) := by
  induction h generalizing c with
  | zero =>
    have e : a1V P d g 0 c j = paV P (rb d c) d g 1 j + paV P c d g 2 j := rfl
    rw [e, paV_ent, paV_ent, blk_rb, Finset.sum_range_succ', Finset.sum_range_one]
    rfl
  | succ h ih =>
    have e : a1V P d g (h + 1) c j = a1V P d g h (rb d c) j + paV P c d g (h + 3) j := rfl
    rw [e, ih, paV_ent, blk_rb, Finset.sum_range_succ' _ (h + 2)]
    rfl

/-- Then along the planes. -/
theorem a2V_ent (d : Bool) (h : ℕ) (hh : h ≤ 2) (c : Dev nD) (j : S64x768.Idx) :
    a2V P d h c j = ∑ n ∈ Finset.range (h + 2), ∑ m ∈ Finset.range 8,
      ent (P ((rb d)^[m] ((zb d)^[n] c))) (64 * blk c d (h + 1) 8 + (j 0).val) (768 * d.toNat + (j 1).val) := by
  induction h generalizing c with
  | zero =>
    have e : a2V P d 0 c j = a1V P d 0 6 (zb d c) j + a1V P d 1 6 c j := rfl
    rw [e, a1V_ent, a1V_ent, show ((0 : Fin 4) : ℕ) = 0 from rfl, show ((1 : Fin 4) : ℕ) = 1 from rfl, blk_zb,
      Finset.sum_range_succ' _ 1, Finset.sum_range_one]
    rfl
  | succ h ih =>
    have e : a2V P d (h + 1) c j = a2V P d h (zb d c) j + a1V P d (Fin.ofNat 4 (h + 2)) 6 c j := rfl
    have hv : ((Fin.ofNat 4 (h + 2) : Fin 4) : ℕ) = h + 2 := Nat.mod_eq_of_lt (by omega)
    rw [e, ih (by omega), a1V_ent, hv, blk_zb, Finset.sum_range_succ' _ (h + 2)]
    rfl

/-- The first half's sums, at the end. -/
theorem sumA (c : Dev nD) (d : Bool) (j : S64x768.Idx) :
    a2V P d 2 c j = ∑ k, ent (P k) (64 * c.val + (j 0).val) (768 * d.toNat + (j 1).val) := by
  rw [a2V_ent P d 2 (le_refl 2), blk_home]
  exact sum_passes d c fun k => ent (P k) (64 * c.val + (j 0).val) (768 * d.toNat + (j 1).val)

/-! ## The second half -/

/-- Along the planes. -/
theorem b1V_ent (d : Bool) (s : Fin 4) (h : ℕ) (c : Dev nD) (j : S128x256.Idx) :
    b1V P d s h c j = ∑ n ∈ Finset.range (h + 2),
      ent (P ((zb d)^[n] c)) (512 * zrel c d (h + 2) + 128 * s.val + (j 0).val) (1536 + 256 * d.toNat + (j 1).val) := by
  induction h generalizing c with
  | zero =>
    have e : b1V P d s 0 c j = pbV P (zb d c) d 1 s j + pbV P c d 2 s j := rfl
    rw [e, pbV_ent, pbV_ent, zrel_zb, Finset.sum_range_succ', Finset.sum_range_one]
    rfl
  | succ h ih =>
    have e : b1V P d s (h + 1) c j = b1V P d s h (zb d c) j + pbV P c d (h + 3) s j := rfl
    rw [e, ih, pbV_ent, zrel_zb, Finset.sum_range_succ' _ (h + 2)]
    rfl

/-- The 64 rows read from it. -/
theorem halfV_ent (c : Dev nD) (d : Bool) (t : ℕ) (j : S64x256.Idx) :
    halfV P c d t j = ∑ n ∈ Finset.range 4,
      ent (P ((zb d)^[n] c)) (64 * blk c d 3 t + (j 0).val) (1536 + 256 * d.toNat + (j 1).val) := by
  obtain ⟨i, hi, h2, h3⟩ : ∃ i : S2x3x512x256.Idx, halfV P c d t j = b1C P c d i
      ∧ (i 2).val = 64 * rrel c d t + (j 0).val ∧ (i 3).val = (j 1).val := by
    have e : halfV P c d t j = b1C P c d ((halfR c d t).emb (Shape.reshapeEquiv squeezes_S1x1x64x256_S64x256.numel_eq j)) := rfl
    rw [reshape_one_one] at e
    refine ⟨_, e, ?_, ?_⟩
    · show 64 * rrel c d t + 1 * (j 0).val = _; omega
    · show 0 + 1 * (j 1).val = _; omega
  rw [hi]
  unfold b1C
  rw [b1V_ent]
  refine Finset.sum_congr rfl fun n _ => congrArg₂ (ent _) ?_ ?_
  · show 512 * zrel c d 4 + 128 * ((i 2).val / 128) + (i 2).val % 128 = 64 * (8 * zrel c d 4 + rrel c d t) + (j 0).val
    omega
  · show 1536 + 256 * d.toNat + (i 3).val = _
    rw [h3]

/-- Then round the ring. -/
theorem b2V_ent (d : Bool) (h : ℕ) (c : Dev nD) (j : S64x256.Idx) :
    b2V P d h c j = ∑ m ∈ Finset.range (h + 2), ∑ n ∈ Finset.range 4,
      ent (P ((zb d)^[n] ((rb d)^[m] c))) (64 * blk c d 3 (h + 2) + (j 0).val) (1536 + 256 * d.toNat + (j 1).val) := by
  induction h generalizing c with
  | zero =>
    have e : b2V P d 0 c j = halfV P (rb d c) d 1 j + halfV P c d 2 j := rfl
    rw [e, halfV_ent, halfV_ent, blk_rb, Finset.sum_range_succ' _ 1, Finset.sum_range_one]
    rfl
  | succ h ih =>
    have e : b2V P d (h + 1) c j = b2V P d h (rb d c) j + halfV P c d (h + 3) j := rfl
    rw [e, ih, halfV_ent, blk_rb, Finset.sum_range_succ' _ (h + 2)]
    rfl

/-- The second half's sums, at the end. -/
theorem sumB (c : Dev nD) (d : Bool) (j : S64x256.Idx) :
    b2V P d 6 c j = ∑ k, ent (P k) (64 * c.val + (j 0).val) (1536 + 256 * d.toNat + (j 1).val) := by
  rw [b2V_ent, blk_home, Finset.sum_comm]
  refine (Finset.sum_congr rfl fun n _ => Finset.sum_congr rfl fun m _ => ?_).trans
    (sum_passes d c fun k => ent (P k) (64 * c.val + (j 0).val) (1536 + 256 * d.toNat + (j 1).val))
  rw [walks]

/-! ## The result -/

/-- The closing function of one number. -/
def close (y : EReal) : EReal :=
  Ideal.div y (Ideal.ofBits .f32 0x3f800000#32 + Ideal.exp (-min (Ideal.ofBits .f32 0x42700000#32) (max (Ideal.ofBits .f32 0xc2700000#32) y)))

theorem closing_ent {s : Shape} (y : FVec Ideal s .f32) (j : s.Idx) : closing y j = close (y j) := by
  have e : closing y j = Ideal.div (y j) (Ideal.ofBits .f32 0x3f800000#32
      + Ideal.exp (Ideal.ofBits .f32 0x00000000#32 - min (Ideal.ofBits .f32 0x42700000#32) (max (Ideal.ofBits .f32 0xc2700000#32) (y j)))) := rfl
  rw [e, Ideal.ofBits_zero_f32, zero_sub]
  rfl

/-- An entry of the result is the closing function of the sum of the 32 partial products there. -/
theorem outV_ent (c : Dev nD) (i : S64x2048.Idx) :
    outV P c i = close (∑ k, ent (P k) (64 * c.val + (i 0).val) (i 1).val) := by
  have h1 : (i 1).val < 2048 := (i 1).isLt
  unfold outV
  by_cases h : (i 1).val < 1536
  · rw [if_pos h]
    unfold oaV
    rw [closing_ent, sumA]
    refine congrArg close (Finset.sum_congr rfl fun k _ => congrArg (ent (P k) _) ?_)
    show 768 * (decide (768 ≤ (i 1).val)).toNat + (i 1).val % 768 = (i 1).val
    by_cases h' : 768 ≤ (i 1).val
    · rw [decide_eq_true h', Bool.toNat_true]; omega
    · rw [decide_eq_false h', Bool.toNat_false]; omega
  · rw [if_neg h]
    unfold obV
    rw [closing_ent, sumB]
    refine congrArg close (Finset.sum_congr rfl fun k _ => congrArg (ent (P k) _) ?_)
    show 1536 + 256 * (decide (1792 ≤ (i 1).val)).toNat + (i 1).val % 256 = (i 1).val
    by_cases h' : 1792 ≤ (i 1).val
    · rw [decide_eq_true h', Bool.toNat_true]; omega
    · rw [decide_eq_false h', Bool.toNat_false]; omega

end Cert.SumProof

end
-- ==== Proof.Algebra.lean ====
/-
# The result is the reference's

Device `c` holds the columns `64 c … 64 c + 63` of the first argument and the same rows of the second. So the products the
32 devices start from add up to the whole product, entry by entry, and the result of device `c` is its block of 64 rows of
the reference's.
-/
module

public import proofs.«01_k».proof.Proof.Frames
public import proofs.«01_k».proof.Proof.Sums
public import proofs.«01_k».proof.Proof.Gen.ReferenceIdeal.Run
public import Idealize.ShloMosaic.Lib.Layout
public import Idealize.ShloMosaic.Lib.StackMember
public import Idealize.ShloMosaic.Lib.MatmulPlain

@[expose] public section

noncomputable section

namespace Cert.SumProof

open Idealize.ShloMosaic Idealize.ShloMosaic.TcCoe Idealize.ShloMosaic.ValueIdx Idealize.SL.Sem

theorem idx2 {a b : ℕ} {i j : (⟨2, ![a, b]⟩ : Shape).Idx} (h0 : (i 0).val = (j 0).val) (h1 : (i 1).val = (j 1).val) : i = j := by
  funext k
  match k with
  | ⟨0, _⟩ => exact Fin.ext h0
  | ⟨1, _⟩ => exact Fin.ext h1

/-! ## The reference -/

/-- The reference ends, leaves its arguments, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

abbrev Whole : Shape := ⟨2, ![2048, 2048]⟩

open Cert.ReferenceIdeal Cert.ReferenceIdeal.Gen in
/-- What the reference computes from its arguments. -/
def refV (x w : FVec Ideal Whole .f32) : FVec Ideal Whole .f32 :=
  Host.divf (Host.dotGeneral dot_S2048x2048_S2048x2048_S2048x2048_1_0_0_1_n_n none x w)
    (addf (broadcastInDim S2048x2048 ![] bcast_S_S2048x2048 (constant S_ .f32 0x3F800000#32))
      (Host.exp (Host.negf (minimumf (broadcastInDim S2048x2048 ![] bcast_S_S2048x2048 (id (constant S_ .f32 0x42700000#32)))
        (maximumf (broadcastInDim S2048x2048 ![] bcast_S_S2048x2048 (id (constant S_ .f32 0xC2700000#32)))
          (Host.dotGeneral dot_S2048x2048_S2048x2048_S2048x2048_1_0_0_1_n_n none x w))))))

/-- An entry of the whole product. -/
theorem whole_ent (x w : FVec Ideal Whole .f32) (r c : Fin 2048) :
    Host.dotGeneral Cert.ReferenceIdeal.dot_S2048x2048_S2048x2048_S2048x2048_1_0_0_1_n_n none x w (ix2 r c)
      = ∑ k : Fin 2048, x (ix2 r k) * w (ix2 k c) := by
  exact StackMember.dotGeneral_plain_apply (m := 2048) (n := 2048) none x w r c

/-- An entry of the reference's result. -/
theorem refV_ent (x w : FVec Ideal Whole .f32) (r c : Fin 2048) :
    refV x w (ix2 r c)
      = close (∑ k : Fin 2048, x (ix2 r k) * w (ix2 k c)) := by
  rw [← whole_ent]
  rfl

/-! ## The products the devices start from -/

open Cert.KernelIdeal Cert.KernelIdeal.Gen

/-- An entry of a device's product. -/
theorem part_ent (x : FVec Ideal S2048x64 .f32) (w : FVec Ideal S64x2048 .f32) (r c : Fin 2048) :
    k0_pay1 x w (ix2 r c)
      = ∑ k : Fin 64, x (ix2 r k) * w (ix2 k c) := by
  have e : k0_pay1 x w = FloatOps.matmul (DotDims.plain 2048 64 2048) none x w (constant S2048x2048 .f32 0x00000000#32) := by
    unfold k0_pay1
    simp only [shapeCast_self]
    rfl
  rw [e, Ideal.matmul_plain_apply]
  exact (congrArg (· + _) Ideal.ofBits_zero_f32).trans (zero_add _)

/-- A device's blocks of the whole arguments, and their product. -/
def colsOf (x : FVec Ideal Whole .f32) (k : Dev nD) : FVec Ideal S2048x64 .f32 := Layout.block ⟨2, ![2048, 64]⟩ ⟨2, ![2048, 2048]⟩ 1 32 k x
def rowsOf (w : FVec Ideal Whole .f32) (k : Dev nD) : FVec Ideal S64x2048 .f32 := Layout.block ⟨2, ![64, 2048]⟩ ⟨2, ![2048, 2048]⟩ 0 32 k w
def prodOf (x w : FVec Ideal Whole .f32) (k : Dev nD) : FVec Ideal S2048x2048 .f32 := k0_pay1 (colsOf x k) (rowsOf w k)

theorem colsOf_ent (x : FVec Ideal Whole .f32) (k : Fin 32) (r : Fin 2048) (q : Fin 64) :
    colsOf x k (ix2 r q) = x (ix2 r (finProdFinEquiv (k, q) : Fin 2048)) := by
  refine congrArg x (idx2 rfl ?_)
  show k.val * 64 + q.val = q.val + 64 * k.val; omega
theorem rowsOf_ent (w : FVec Ideal Whole .f32) (k : Fin 32) (q : Fin 64) (c : Fin 2048) :
    rowsOf w k (ix2 q c) = w (ix2 (finProdFinEquiv (k, q) : Fin 2048) c) := by
  refine congrArg w (idx2 ?_ rfl)
  show k.val * 64 + q.val = q.val + 64 * k.val; omega

/-- The products of the blocks add up to the whole product. -/
theorem parts_sum (x w : FVec Ideal Whole .f32) (r c : Fin 2048) :
    ∑ k : Dev nD, ent (prodOf x w k) r.val c.val = ∑ k : Fin 2048, x (ix2 r k) * w (ix2 k c) := by
  have e : ∀ k : Fin 32, ent (prodOf x w k) r.val c.val
      = ∑ q : Fin 64, x (ix2 r (finProdFinEquiv (k, q) : Fin 2048)) * w (ix2 (finProdFinEquiv (k, q) : Fin 2048) c) := fun k => by
    refine (ent_idx _ (ix2 r c) rfl rfl).symm.trans ((part_ent _ _ r c).trans ?_)
    exact Finset.sum_congr rfl fun q _ => congrArg₂ (· * ·) (colsOf_ent x k r q) (rowsOf_ent w k q c)
  refine (Finset.sum_congr rfl fun k _ => e k).trans ?_
  rw [← Fintype.sum_prod_type']
  exact Fintype.sum_equiv (finProdFinEquiv (m := 32) (n := 64)) _ (fun k : Fin 2048 => x (ix2 r k) * w (ix2 k c)) fun _ => rfl

/-- What the kernel leaves on a device is its 64 rows of the reference's result. -/
theorem out_block (x w : FVec Ideal Whole .f32) (c : Dev nD) : outV (prodOf x w) c = rowsOf (refV x w) c := by
  funext i
  have h0 : (i 0).val < 64 := (i 0).isLt
  have h1 : (i 1).val < 2048 := (i 1).isLt
  have hc : c.val < 32 := c.isLt
  have hl : outV (prodOf x w) c i = close (∑ k : Dev nD, ent (prodOf x w k) (64 * c.val + (i 0).val) (i 1).val) := outV_ent _ c i
  have hs := parts_sum x w ⟨64 * c.val + (i 0).val, by omega⟩ ⟨(i 1).val, h1⟩
  have hr := refV_ent x w ⟨64 * c.val + (i 0).val, by omega⟩ ⟨(i 1).val, h1⟩
  have hi : rowsOf (refV x w) c i = refV x w (ix2 ⟨64 * c.val + (i 0).val, by omega⟩ ⟨(i 1).val, h1⟩) := by
    refine congrArg (refV x w) (idx2 ?_ rfl)
    show c.val * 64 + (i 0).val = 64 * c.val + (i 0).val; omega
  rw [hl, hi, hr]
  exact congrArg close hs

/-! ## The two runs -/

section
variable (m : (ℓ : Loc nD τ sig) → Buf (Elt Ideal) ℓ) (ρ : Dev nD → PrngReg)

/-- The windows are whole arrays. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
theorem wstg_eq (c : Dev nD) : wstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _
theorem finalA_out (c : Dev nD) : finalA m ρ c (2 : Fin 3) = outV (parts m ρ) c := by
  have hz : (fun a => (win0_2.index (0 : Fin 1)) a * main_v1.ty.shape.size a) = fun _ => 0 :=
    funext fun a => by fin_cases a <;> decide
  have h : (win0_2.blk (0 : Fin 1)).view.read (Elt Ideal) (finalA m ρ c (2 : Fin 3)) = outV (parts m ρ) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt Ideal) main_v1 hz (fun a => by fin_cases a <;> decide) _).symm.trans h

/-- The result of a device whose memory, like the others', holds its blocks of `x` and `w`. -/
theorem result_eq (x w : FVec Ideal Whole .f32)
    (hx : ∀ k : Dev nD, m ((k : Thread nD τ).loc main_arg0) = colsOf x k)
    (hw : ∀ k : Dev nD, m ((k : Thread nD τ).loc main_arg1) = rowsOf w k) (c : Dev nD) :
    finalA m ρ c (2 : Fin 3) = rowsOf (refV x w) c := by
  have hp : parts m ρ = prodOf x w := funext fun k => by
    have ex := (xstg_eq m ρ k).trans (hx k)
    have ew := (wstg_eq m ρ k).trans (hw k)
    unfold parts prodOf
    rw [ex, ew]
  exact (finalA_out m ρ c).trans ((congrArg (fun P => outV P c) hp).trans (out_block x w c))
end

/-- From blocks of the reference's arguments, every device's result is its block of the reference's. -/
theorem algebraic : Cert.algebraic_KernelIdeal_ReferenceIdeal := fun m ρ m' ρ' _ h =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨(hr.1 c (2 : Fin 3)).trans (result_eq m ρ _ _ (fun k => (h k).1) (fun k => (h k).2) c),
        (hr.1 c (0 : Fin 3)).trans (finalA_x m ρ c), (hr.1 c (1 : Fin 3)).trans (finalA_w m ρ c)⟩)
      (run_main (F := Ideal) m ρ),
    (θ_run Cert.ReferenceIdeal.defs _ _).mono (fun _ hr => hr 0) (Cert.ReferenceIdeal.Value.run (F := Ideal) m' ρ')⟩

end Cert.SumProof

end
-- ==== Proof.lean ====
/-
# The five claims

The kernel, as printed and read over the extended reals, ends, leaves its arguments and every semaphore at zero, and so does
the reference; and over the extended reals the kernel's result on a device is that device's block of rows of the reference's.
The work is in the modules: `Launch` has the run of the program, `Sums` what the result holds, `Algebra` the equation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem

/-- All claims. -/
theorem claim : Cert.Claim := ⟨Cert.Kernel.Gen.facts, Cert.KernelIdeal.Gen.facts, Cert.ReferenceIdeal.Gen.facts,
  Cert.SumProof.frame_kernel, Cert.SumProof.frame_ideal,
  Cert.SumProof.frame_reference, trivial, Cert.SumProof.algebraic⟩

end Cert.Proof

end
